-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S2x10000x128 : Shape := ⟨3, ![2, 10000, 128]⟩
abbrev S2x320000 : Shape := ⟨2, ![2, 320000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S2x320000 : S_.BroadcastsInDim S2x320000 (![] : Fin 0 → Fin S2x320000.rank)
  reducesTo_S2x320000_S_d0_1 : S2x320000.ReducesTo [0, 1] S_
  h_S_ : 0 < S_.numel

variable [Facts]

def fn {F : FTy → Type} [FloatOps F] (main_arg0 : FVec F S2x10000x128 .f32) (main_arg1 : IVec S2x320000 32) (main_arg2 : FVec F S128x64 .f32) (main_arg3 : FVec F S64 .f32) (main_arg4 : FVec F S64x128 .f32) (main_arg5 : FVec F S128 .f32) : IVec S_ 1 :=
  let main_c : IVec S_ 32 := constantI S_ 32 0#32
  let main_v0 : IVec S2x320000 32 := broadcastInDim S2x320000 ![] bcast_S_S2x320000 main_c
  let main_v1 : IVec S2x320000 1 := cmpi .sge main_arg1 main_v0
  let main_c_0 : IVec S_ 32 := constantI S_ 32 2000#32
  let main_v2 : IVec S2x320000 32 := broadcastInDim S2x320000 ![] bcast_S_S2x320000 main_c_0
  let main_v3 : IVec S2x320000 1 := cmpi .slt main_arg1 main_v2
  let main_v4 : IVec S2x320000 1 := andi main_v1 main_v3
  let main_c_1 : IVec S_ 1 := constantI S_ 1 1#1
  let main_v5 : IVec S_ 1 := (fun x v => Host.reduce IntOp.andi x v reducesTo_S2x320000_S_d0_1 h_S_) main_v4 main_c_1
  main_v5
-- ==== Kernel.lean ====
abbrev S2x10000x128 : Shape := ⟨3, ![2, 10000, 128]⟩
abbrev S2x320000 : Shape := ⟨2, ![2, 320000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S1x320000 : Shape := ⟨2, ![1, 320000]⟩
abbrev S320000 : Shape := ⟨1, ![320000]⟩
abbrev S4096000 : Shape := ⟨1, ![4096000]⟩
abbrev S128000 : Shape := ⟨1, ![128000]⟩
abbrev S1280 : Shape := ⟨1, ![1280]⟩
abbrev S16 : Shape := ⟨1, ![16]⟩
abbrev S_ : Shape := ⟨0, ![]⟩
abbrev S2048x2000 : Shape := ⟨2, ![2048, 2000]⟩
abbrev S2x2048x128 : Shape := ⟨3, ![2, 2048, 128]⟩
abbrev S1x128 : Shape := ⟨2, ![1, 128]⟩
abbrev S256 : Shape := ⟨1, ![256]⟩
abbrev S1x256 : Shape := ⟨2, ![1, 256]⟩
abbrev S2000x192 : Shape := ⟨2, ![2000, 192]⟩
abbrev S256x2000 : Shape := ⟨2, ![256, 2000]⟩
abbrev S2x256x128 : Shape := ⟨3, ![2, 256, 128]⟩
abbrev S1x256x128 : Shape := ⟨3, ![1, 256, 128]⟩
abbrev S256x128 : Shape := ⟨2, ![256, 128]⟩
abbrev S256x64 : Shape := ⟨2, ![256, 64]⟩
abbrev S256x192 : Shape := ⟨2, ![256, 192]⟩
abbrev S2000x256 : Shape := ⟨2, ![2000, 256]⟩
abbrev S2000x128 : Shape := ⟨2, ![2000, 128]⟩
abbrev S2000x1 : Shape := ⟨2, ![2000, 1]⟩
abbrev S256x1 : Shape := ⟨2, ![256, 1]⟩
abbrev S256x256 : Shape := ⟨2, ![256, 256]⟩
abbrev S2048x256 : Shape := ⟨2, ![2048, 256]⟩
abbrev S2048x128 : Shape := ⟨2, ![2048, 128]⟩
abbrev S1x2048x128 : Shape := ⟨3, ![1, 2048, 128]⟩
abbrev S2x7952x128 : Shape := ⟨3, ![2, 7952, 128]⟩

abbrev nBuf : Table → Nat
  | .hbm => 27
  | .local .tc .vmem => 19
  | .local .scVector .vmem => 3
  | _ => 0

abbrev bufTy : (tb : Table) → Fin (nBuf tb) → BufTy
  | .hbm, ⟨0, _⟩ => ⟨S2x10000x128, .f32⟩
  | .hbm, ⟨1, _⟩ => ⟨S2x320000, .i32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S4096000, .f32⟩
  | .hbm, ⟨11, _⟩ => ⟨S2048x2000, .f32⟩
  | .hbm, ⟨12, _⟩ => ⟨S2x2048x128, .f32⟩
  | .hbm, ⟨13, _⟩ => ⟨S128, .f32⟩
  | .hbm, ⟨14, _⟩ => ⟨S1x128, .f32⟩
  | .hbm, ⟨15, _⟩ => ⟨S256, .f32⟩
  | .hbm, ⟨16, _⟩ => ⟨S1x256, .f32⟩
  | .hbm, ⟨17, _⟩ => ⟨S2000x192, .f32⟩
  | .hbm, ⟨18, _⟩ => ⟨S2000x256, .f32⟩
  | .hbm, ⟨19, _⟩ => ⟨S2048x256, .f32⟩
  | .hbm, ⟨20, _⟩ => ⟨S2048x128, .f32⟩
  | .hbm, ⟨21, _⟩ => ⟨S2048x128, .f32⟩
  | .hbm, ⟨22, _⟩ => ⟨S1x2048x128, .f32⟩
  | .hbm, ⟨23, _⟩ => ⟨S1x2048x128, .f32⟩
  | .hbm, ⟨24, _⟩ => ⟨S2x2048x128, .f32⟩
  | .hbm, ⟨25, _⟩ => ⟨S2x7952x128, .f32⟩
  | .hbm, ⟨26, _⟩ => ⟨S2x10000x128, .f32⟩
  | .local .tc .vmem, ⟨0, _⟩ => ⟨S256x2000, .f32⟩
  | .local .tc .vmem, ⟨1, _⟩ => ⟨S256x2000, .f32⟩
  | .local .tc .vmem, ⟨2, _⟩ => ⟨S2x256x128, .f32⟩
  | .local .tc .vmem, ⟨3, _⟩ => ⟨S2x256x128, .f32⟩
  | .local .tc .vmem, ⟨4, _⟩ => ⟨S128x64, .f32⟩
  | .local .tc .vmem, ⟨5, _⟩ => ⟨S2000x192, .f32⟩
  | .local .tc .vmem, ⟨6, _⟩ => ⟨S256x2000, .f32⟩
  | .local .tc .vmem, ⟨7, _⟩ => ⟨S256x2000, .f32⟩
  | .local .tc .vmem, ⟨8, _⟩ => ⟨S2000x192, .f32⟩
  | .local .tc .vmem, ⟨9, _⟩ => ⟨S64x128, .f32⟩
  | .local .tc .vmem, ⟨10, _⟩ => ⟨S1x128, .f32⟩
  | .local .tc .vmem, ⟨11, _⟩ => ⟨S2000x256, .f32⟩
  | .local .tc .vmem, ⟨12, _⟩ => ⟨S256x2000, .f32⟩
  | .local .tc .vmem, ⟨13, _⟩ => ⟨S256x2000, .f32⟩
  | .local .tc .vmem, ⟨14, _⟩ => ⟨S2000x192, .f32⟩
  | .local .tc .vmem, ⟨15, _⟩ => ⟨S2000x256, .f32⟩
  | .local .tc .vmem, ⟨16, _⟩ => ⟨S1x256, .f32⟩
  | .local .tc .vmem, ⟨17, _⟩ => ⟨S256x256, .f32⟩
  | .local .tc .vmem, ⟨18, _⟩ => ⟨S256x256, .f32⟩
  | .local .scVector .vmem, ⟨0, _⟩ => ⟨S128000, .f32⟩
  | .local .scVector .vmem, ⟨1, _⟩ => ⟨S1280, .i32⟩
  | .local .scVector .vmem, ⟨2, _⟩ => ⟨S1280, .i32⟩
  | _, _ => ⟨S2x10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v1_scv : Ref sig .scVector := ⟨.hbm, 7, rfl⟩
abbrev main_v3_scv : Ref sig .scVector := ⟨.hbm, 9, rfl⟩
abbrev main_v4_scv : Ref sig .scVector := ⟨.hbm, 10, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg3_0 : Ref sig .tc := ⟨.vmem, 10, rfl⟩
abbrev cc2_stg4_0 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg2_0 : Ref sig .tc := ⟨.vmem, 15, rfl⟩
abbrev cc3_stg3_0 : Ref sig .tc := ⟨.vmem, 16, rfl⟩
abbrev cc3_stg4_0 : Ref sig .tc := ⟨.vmem, 17, rfl⟩
abbrev cc3_stg4_1 : Ref sig .tc := ⟨.vmem, 18, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem4_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c8000_i32 : BitVec 32 := 8000#32
  let v4 : BitVec 32 := Scalar.addi c0_i32_0 c8000_i32
  let c1_i32 : BitVec 32 := 1#32
  ⟨c0_i32_0, v4, c1_i32⟩
def k0_off1 (k0_t1 : Fin k0_t1_loop.trips) : Fin 1 → Nat :=
  let c0_i32_0 : BitVec 32 := 0#32
  let c1_i32 : BitVec 32 := 1#32
  let arg8 : BitVec 32 := Scf.iv c0_i32_0 c1_i32 k0_t1
  let c16_i32 : BitVec 32 := 16#32
  let v8 : BitVec 32 := Scalar.muli arg8 c16_i32
  let v9 : Index := Scalar.indexCast v8
  ![v9.toNat]
@[reducible] def k0_t2_loop : Scf.Loop 32 :=
  let c0_i32_4 : BitVec 32 := 0#32
  let c250_i32 : BitVec 32 := 250#32
  let v6 : BitVec 32 := Scalar.addi c0_i32_4 c250_i32
  let c1_i32_5 : BitVec 32 := 1#32
  ⟨c0_i32_4, v6, c1_i32_5⟩
def k0_off2 (k0_t2 : Fin k0_t2_loop.trips) : Fin 1 → Nat :=
  let c0_i32_4 : BitVec 32 := 0#32
  let c1_i32_5 : BitVec 32 := 1#32
  let arg8 : BitVec 32 := Scf.iv c0_i32_4 c1_i32_5 k0_t2
  let c1280_i32 : BitVec 32 := 1280#32
  let v8 : BitVec 32 := Scalar.muli arg8 c1280_i32
  ![v8.toNat]
@[reducible] def k0_t3_loop : Scf.Loop 32 :=
  let c0_i32_8 : BitVec 32 := 0#32
  let c80_i32 : BitVec 32 := 80#32
  let v10 : BitVec 32 := Scalar.addi c0_i32_8 c80_i32
  let c1_i32_9 : BitVec 32 := 1#32
  ⟨c0_i32_8, v10, c1_i32_9⟩
def k0_off3 (k0_t3 : Fin k0_t3_loop.trips) : Fin 1 → Nat :=
  let c0_i32_8 : BitVec 32 := 0#32
  let c1_i32_9 : BitVec 32 := 1#32
  let arg9 : BitVec 32 := Scf.iv c0_i32_8 c1_i32_9 k0_t3
  let c16_i32 : BitVec 32 := 16#32
  let v11 : BitVec 32 := Scalar.muli arg9 c16_i32
  let v12 : Index := Scalar.indexCast v11
  ![v12.toNat]

def k0_chk1 (v28 : IVec S16 32) : Prop :=
  (∀ a x, ((![v28] : Fin 1 → IVec S16 32) a x).toNat < S128000.size a)
theorem k0_idx1_inb : ∀ (v28 : IVec S16 32) (k0_hw1 : k0_chk1 v28), ∀ a x, ((![v28] : Fin 1 → IVec S16 32) a x).toNat < S128000.size a := fun v28 k0_hw1 => k0_hw1
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c2000_i32 : BitVec 32 := 2000#32
  let v7 : BitVec 32 := Scalar.muli v2 c2000_i32
  ![v7.toNat]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x2000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2000x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x2000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2000x192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2000x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2000x192 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S2000x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S256x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x10000x128 : Shape := ⟨3, ![2, 10000, 128]⟩
abbrev S2x320000 : Shape := ⟨2, ![2, 320000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S1x320000 : Shape := ⟨2, ![1, 320000]⟩
abbrev S320000 : Shape := ⟨1, ![320000]⟩
abbrev S10000x2x128 : Shape := ⟨3, ![10000, 2, 128]⟩
abbrev S10000x2x64 : Shape := ⟨3, ![10000, 2, 64]⟩
abbrev S_ : Shape := ⟨0, ![]⟩
abbrev S10000 : Shape := ⟨1, ![10000]⟩
abbrev S320000x1 : Shape := ⟨2, ![320000, 1]⟩
abbrev S2000 : Shape := ⟨1, ![2000]⟩
abbrev S320000x1x1 : Shape := ⟨3, ![320000, 1, 1]⟩
abbrev S320000x2x64 : Shape := ⟨3, ![320000, 2, 64]⟩
abbrev S2000x2x64 : Shape := ⟨3, ![2000, 2, 64]⟩
abbrev S1x1x64 : Shape := ⟨3, ![1, 1, 64]⟩
abbrev S320000x2x128 : Shape := ⟨3, ![320000, 2, 128]⟩
abbrev S2000x2x128 : Shape := ⟨3, ![2000, 2, 128]⟩
abbrev S1x1x128 : Shape := ⟨3, ![1, 1, 128]⟩

abbrev nBuf : Space → Nat
  | .hbm => 180
  | .vmem => 0
  | .smem => 0
  | _ => 0

abbrev hbmTy0_0 (i : Nat) : BufTy := match i % 128 with
  | 0 => ⟨S2x10000x128, .f32⟩
  | 1 => ⟨S2x320000, .i32⟩
  | 2 => ⟨S128x64, .f32⟩
  | 3 => ⟨S64, .f32⟩
  | 4 => ⟨S64x128, .f32⟩
  | 5 => ⟨S128, .f32⟩
  | 6 => ⟨S1x320000, .i32⟩
  | 7 => ⟨S320000, .i32⟩
  | 8 => ⟨S1x320000, .i32⟩
  | 9 => ⟨S320000, .i32⟩
  | 10 => ⟨S10000x2x128, .f32⟩
  | 11 => ⟨S10000x2x64, .f32⟩
  | 12 => ⟨S_, .f32⟩
  | 13 => ⟨S320000, .f32⟩
  | 14 => ⟨S_, .f32⟩
  | 15 => ⟨S10000, .f32⟩
  | 16 => ⟨S320000x1, .i32⟩
  | 17 => ⟨S10000, .f32⟩
  | 18 => ⟨S_, .f32⟩
  | 19 => ⟨S10000, .f32⟩
  | 20 => ⟨S10000, .i1⟩
  | 21 => ⟨S_, .f32⟩
  | 22 => ⟨S10000, .f32⟩
  | 23 => ⟨S10000, .f32⟩
  | 24 => ⟨S_, .f32⟩
  | 25 => ⟨S_, .f32⟩
  | 26 => ⟨S10000, .f32⟩
  | 27 => ⟨S10000, .f32⟩
  | 28 => ⟨S_, .f32⟩
  | 29 => ⟨S2000, .f32⟩
  | 30 => ⟨S320000x1, .i32⟩
  | 31 => ⟨S2000, .f32⟩
  | 32 => ⟨S_, .f32⟩
  | 33 => ⟨S2000, .f32⟩
  | 34 => ⟨S2000, .i1⟩
  | 35 => ⟨S_, .f32⟩
  | 36 => ⟨S2000, .f32⟩
  | 37 => ⟨S2000, .f32⟩
  | 38 => ⟨S_, .f32⟩
  | 39 => ⟨S_, .f32⟩
  | 40 => ⟨S2000, .f32⟩
  | 41 => ⟨S2000, .f32⟩
  | 42 => ⟨S_, .i32⟩
  | 43 => ⟨S320000, .i32⟩
  | 44 => ⟨S320000, .i1⟩
  | 45 => ⟨S_, .i32⟩
  | 46 => ⟨S320000, .i32⟩
  | 47 => ⟨S320000, .i32⟩
  | 48 => ⟨S320000, .i32⟩
  | 49 => ⟨S320000x1, .i32⟩
  | 50 => ⟨S320000, .f32⟩
  | 51 => ⟨S320000x1x1, .f32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S320000x1, .i32⟩
  | 60 => ⟨S320000x2x64, .f32⟩
  | 61 => ⟨S320000x2x64, .f32⟩
  | 62 => ⟨S320000x2x64, .f32⟩
  | 63 => ⟨S_, .f32⟩
  | 64 => ⟨S2000x2x64, .f32⟩
  | 65 => ⟨S320000x1, .i32⟩
  | 66 => ⟨S2000x2x64, .f32⟩
  | 67 => ⟨S_, .i32⟩
  | 68 => ⟨S320000, .i32⟩
  | 69 => ⟨S320000, .i1⟩
  | 70 => ⟨S_, .i32⟩
  | 71 => ⟨S320000, .i32⟩
  | 72 => ⟨S320000, .i32⟩
  | 73 => ⟨S320000, .i32⟩
  | 74 => ⟨S320000x1, .i32⟩
  | 75 => ⟨S320000, .f32⟩
  | 76 => ⟨S320000x1x1, .f32⟩
  | 77 => ⟨S_, .i32⟩
  | 78 => ⟨S320000, .i32⟩
  | 79 => ⟨S320000, .i1⟩
  | 80 => ⟨S_, .i32⟩
  | 81 => ⟨S320000, .i32⟩
  | 82 => ⟨S320000, .i32⟩
  | 83 => ⟨S320000, .i32⟩
  | 84 => ⟨S320000x1, .i32⟩
  | 85 => ⟨S320000x2x64, .f32⟩
  | 86 => ⟨S320000x2x64, .f32⟩
  | 87 => ⟨S320000x2x64, .f32⟩
  | 88 => ⟨S_, .f32⟩
  | 89 => ⟨S10000x2x64, .f32⟩
  | 90 => ⟨S320000x1, .i32⟩
  | 91 => ⟨S10000x2x64, .f32⟩
  | 92 => ⟨S1x1x64, .f32⟩
  | 93 => ⟨S10000x2x64, .f32⟩
  | 94 => ⟨S10000x2x64, .f32⟩
  | 95 => ⟨S10000x2x128, .f32⟩
  | 96 => ⟨S_, .f32⟩
  | 97 => ⟨S320000, .f32⟩
  | 98 => ⟨S_, .f32⟩
  | 99 => ⟨S10000, .f32⟩
  | 100 => ⟨S320000x1, .i32⟩
  | 101 => ⟨S10000, .f32⟩
  | 102 => ⟨S_, .f32⟩
  | 103 => ⟨S10000, .f32⟩
  | 104 => ⟨S10000, .i1⟩
  | 105 => ⟨S_, .f32⟩
  | 106 => ⟨S10000, .f32⟩
  | 107 => ⟨S10000, .f32⟩
  | 108 => ⟨S_, .f32⟩
  | 109 => ⟨S_, .f32⟩
  | 110 => ⟨S10000, .f32⟩
  | 111 => ⟨S10000, .f32⟩
  | 112 => ⟨S_, .f32⟩
  | 113 => ⟨S2000, .f32⟩
  | 114 => ⟨S320000x1, .i32⟩
  | 115 => ⟨S2000, .f32⟩
  | 116 => ⟨S_, .f32⟩
  | 117 => ⟨S2000, .f32⟩
  | 118 => ⟨S2000, .i1⟩
  | 119 => ⟨S_, .f32⟩
  | 120 => ⟨S2000, .f32⟩
  | 121 => ⟨S2000, .f32⟩
  | 122 => ⟨S_, .f32⟩
  | 123 => ⟨S_, .f32⟩
  | 124 => ⟨S2000, .f32⟩
  | 125 => ⟨S2000, .f32⟩
  | 126 => ⟨S_, .i32⟩
  | 127 => ⟨S320000, .i32⟩
  | _ => ⟨S2x10000x128, .f32⟩

abbrev hbmTy0_1 (i : Nat) : BufTy := match i % 128 with
  | 0 => ⟨S320000, .i1⟩
  | 1 => ⟨S_, .i32⟩
  | 2 => ⟨S320000, .i32⟩
  | 3 => ⟨S320000, .i32⟩
  | 4 => ⟨S320000, .i32⟩
  | 5 => ⟨S320000x1, .i32⟩
  | 6 => ⟨S320000, .f32⟩
  | 7 => ⟨S320000x1x1, .f32⟩
  | 8 => ⟨S_, .i32⟩
  | 9 => ⟨S320000, .i32⟩
  | 10 => ⟨S320000, .i1⟩
  | 11 => ⟨S_, .i32⟩
  | 12 => ⟨S320000, .i32⟩
  | 13 => ⟨S320000, .i32⟩
  | 14 => ⟨S320000, .i32⟩
  | 15 => ⟨S320000x1, .i32⟩
  | 16 => ⟨S320000x2x128, .f32⟩
  | 17 => ⟨S320000x2x128, .f32⟩
  | 18 => ⟨S320000x2x128, .f32⟩
  | 19 => ⟨S_, .f32⟩
  | 20 => ⟨S2000x2x128, .f32⟩
  | 21 => ⟨S320000x1, .i32⟩
  | 22 => ⟨S2000x2x128, .f32⟩
  | 23 => ⟨S_, .i32⟩
  | 24 => ⟨S320000, .i32⟩
  | 25 => ⟨S320000, .i1⟩
  | 26 => ⟨S_, .i32⟩
  | 27 => ⟨S320000, .i32⟩
  | 28 => ⟨S320000, .i32⟩
  | 29 => ⟨S320000, .i32⟩
  | 30 => ⟨S320000x1, .i32⟩
  | 31 => ⟨S320000, .f32⟩
  | 32 => ⟨S320000x1x1, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000x2x128, .f32⟩
  | 42 => ⟨S320000x2x128, .f32⟩
  | 43 => ⟨S320000x2x128, .f32⟩
  | 44 => ⟨S_, .f32⟩
  | 45 => ⟨S10000x2x128, .f32⟩
  | 46 => ⟨S320000x1, .i32⟩
  | 47 => ⟨S10000x2x128, .f32⟩
  | 48 => ⟨S1x1x128, .f32⟩
  | 49 => ⟨S10000x2x128, .f32⟩
  | 50 => ⟨S10000x2x128, .f32⟩
  | 51 => ⟨S2x10000x128, .f32⟩
  | _ => ⟨S2x10000x128, .f32⟩

abbrev hbmTy (i : Nat) : BufTy := match i / 128 with
  | 0 => hbmTy0_0 i
  | 1 => hbmTy0_1 i
  | _ => ⟨S2x10000x128, .f32⟩

abbrev bufTy : (tb : Table) → Fin (tcTables nBuf tb) → BufTy
  | .hbm, ⟨i, _⟩ => hbmTy i
  | _, _ => ⟨S2x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_v22 : Ref sig .tc := ⟨.hbm, 41, rfl⟩
abbrev main_c : Ref sig .tc := ⟨.hbm, 42, rfl⟩
abbrev main_v23 : Ref sig .tc := ⟨.hbm, 43, rfl⟩
abbrev main_v24 : Ref sig .tc := ⟨.hbm, 44, rfl⟩
abbrev main_c_8 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_9 : Ref sig .tc := ⟨.hbm, 52, rfl⟩
abbrev main_v31 : Ref sig .tc := ⟨.hbm, 53, rfl⟩
abbrev main_v32 : Ref sig .tc := ⟨.hbm, 54, rfl⟩
abbrev main_c_10 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_11 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_12 : Ref sig .tc := ⟨.hbm, 67, rfl⟩
abbrev main_v43 : Ref sig .tc := ⟨.hbm, 68, rfl⟩
abbrev main_v44 : Ref sig .tc := ⟨.hbm, 69, rfl⟩
abbrev main_c_13 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_14 : Ref sig .tc := ⟨.hbm, 77, rfl⟩
abbrev main_v51 : Ref sig .tc := ⟨.hbm, 78, rfl⟩
abbrev main_v52 : Ref sig .tc := ⟨.hbm, 79, rfl⟩
abbrev main_c_15 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_16 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_17 : Ref sig .tc := ⟨.hbm, 96, rfl⟩
abbrev main_v67 : Ref sig .tc := ⟨.hbm, 97, rfl⟩
abbrev main_cst_18 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_19 : Ref sig .tc := ⟨.hbm, 102, rfl⟩
abbrev main_v71 : Ref sig .tc := ⟨.hbm, 103, rfl⟩
abbrev main_v72 : Ref sig .tc := ⟨.hbm, 104, rfl⟩
abbrev main_cst_20 : Ref sig .tc := ⟨.hbm, 105, rfl⟩
abbrev main_v73 : Ref sig .tc := ⟨.hbm, 106, rfl⟩
abbrev main_v74 : Ref sig .tc := ⟨.hbm, 107, rfl⟩
abbrev main_cst_21 : Ref sig .tc := ⟨.hbm, 108, rfl⟩
abbrev main_call2_v0 : Ref sig .tc := ⟨.hbm, 109, rfl⟩
abbrev main_call2_v1 : Ref sig .tc := ⟨.hbm, 110, rfl⟩
abbrev main_v75 : Ref sig .tc := ⟨.hbm, 111, rfl⟩
abbrev main_cst_22 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_23 : Ref sig .tc := ⟨.hbm, 116, rfl⟩
abbrev main_v79 : Ref sig .tc := ⟨.hbm, 117, rfl⟩
abbrev main_v80 : Ref sig .tc := ⟨.hbm, 118, rfl⟩
abbrev main_cst_24 : Ref sig .tc := ⟨.hbm, 119, rfl⟩
abbrev main_v81 : Ref sig .tc := ⟨.hbm, 120, rfl⟩
abbrev main_v82 : Ref sig .tc := ⟨.hbm, 121, rfl⟩
abbrev main_cst_25 : Ref sig .tc := ⟨.hbm, 122, rfl⟩
abbrev main_call3_v0 : Ref sig .tc := ⟨.hbm, 123, rfl⟩
abbrev main_call3_v1 : Ref sig .tc := ⟨.hbm, 124, rfl⟩
abbrev main_v83 : Ref sig .tc := ⟨.hbm, 125, rfl⟩
abbrev main_c_26 : Ref sig .tc := ⟨.hbm, 126, rfl⟩
abbrev main_v84 : Ref sig .tc := ⟨.hbm, 127, rfl⟩
abbrev main_v85 : Ref sig .tc := ⟨.hbm, 128, rfl⟩
abbrev main_c_27 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_c_28 : Ref sig .tc := ⟨.hbm, 136, rfl⟩
abbrev main_v92 : Ref sig .tc := ⟨.hbm, 137, rfl⟩
abbrev main_v93 : Ref sig .tc := ⟨.hbm, 138, rfl⟩
abbrev main_c_29 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_30 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_c_31 : Ref sig .tc := ⟨.hbm, 151, rfl⟩
abbrev main_v104 : Ref sig .tc := ⟨.hbm, 152, rfl⟩
abbrev main_v105 : Ref sig .tc := ⟨.hbm, 153, rfl⟩
abbrev main_c_32 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_c_33 : Ref sig .tc := ⟨.hbm, 161, rfl⟩
abbrev main_v112 : Ref sig .tc := ⟨.hbm, 162, rfl⟩
abbrev main_v113 : Ref sig .tc := ⟨.hbm, 163, rfl⟩
abbrev main_c_34 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_35 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩

abbrev nD : Nat := 1
abbrev τ : Topo := Topo.v7x

variable {F : FTy → Type} [FloatOps F]
-- ==== Proof.Sc.lean ====
/-  The SparseCore call: every vector subcore builds its 64 rows of the incidence counts.  A subcore clears its local rows, then walks the
    320000 pairs in 250 chunks of 1280, sixteen at a time, and adds one at `row * 2000 + column` for the pairs whose node lies in its rows;
    at the end it copies the rows out.  The value is carried by the invariants: `hAcc` is the local table after a number of groups of sixteen. -/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.WritesUnit
public import proofs.«01_k».proof.Proof.Gen.KernelIdeal
public import proofs.«01_k».proof.Proof.Gen.KernelIdeal.Skeleton

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 3) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

variable [FloatOps F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds sit in the left factor. -/
abbrev EH : Emb UH (MT nD τ sig (HIx 1) (Elt F) ℕ UU ℕ) := embL

/-! ## The local table as a function of the groups done -/

/-- The sixteen entries a group reads: entries `16 t` to `16 t + 15` of the list. -/
def lanes (v : Vec F S320000 .i32) (t : ℕ) : Vec F S16 .i32 :=
  fun x => v (Shape.ofLane (d := ![320000]) ⟨(16 * t + (x 0).val) % 320000, Nat.mod_lt _ (by decide)⟩)

/-- One group of sixteen added into the local table (nothing, should an index fall outside it). -/
def grpStep (L : grid0.Coords) (n e : Vec F S320000 .i32) (t : ℕ) (f : Vec F S128000 .f32) : Vec F S128000 .f32 :=
  if h : k0_chk1 (k0_pay5 (F := F) L (lanes n t) (lanes e t)) then
    storeIdx f ![k0_pay5 (F := F) L (lanes n t) (lanes e t)] (k0_pay2 (F := F)) (k0_pay4 (F := F) L (lanes n t)) true (k0_idx1_inb _ h)
  else f

/-- The cleared table. -/
def hZero : Vec F S128000 .f32 := fun _ => Scalar.ofBits .f32 0x00000000#32

/-- The local table after `t` groups of sixteen. -/
def hAcc (L : grid0.Coords) (n e : Vec F S320000 .i32) : ℕ → Vec F S128000 .f32
  | 0 => hZero
  | t + 1 => grpStep L n e t (hAcc L n e t)

/-- Every entry of the column list is a column. -/
def ColOK (e : Vec F S320000 .i32) : Prop := ∀ j, @BitVec.toNat 32 (e j) < 2000

theorem mask_iff (L : grid0.Coords) (a : Vec F S16 .i32) (x : S16.Idx) :
    k0_pay4 (F := F) L a x = 1#1 ↔ (k0_pay3 (F := F) L a x).toNat < 64 := by
  show (IntOp.cmpi .sge (k0_pay3 (F := F) L a x) 0#32 &&& IntOp.cmpi .slt (k0_pay3 (F := F) L a x) 64#32) = 1#1 ↔ _
  generalize k0_pay3 (F := F) L a x = w
  simp only [IntOp.cmpi]
  have h1 : (0#32).sle w = true ↔ w.toNat < 2 ^ 31 := by
    rw [BitVec.sle_eq_decide, decide_eq_true_iff, BitVec.toInt_eq_toNat_cond, BitVec.toInt_eq_toNat_cond]
    have := w.isLt
    simp only [BitVec.toNat_ofNat]; split <;> split <;> omega
  have h2 : w.slt 64#32 = true ↔ w.toNat < 64 ∨ 2 ^ 31 ≤ w.toNat := by
    rw [BitVec.slt_eq_decide, decide_eq_true_iff, BitVec.toInt_eq_toNat_cond, BitVec.toInt_eq_toNat_cond]
    have := w.isLt
    simp only [BitVec.toNat_ofNat]; split <;> split <;> omega
  cases e1 : (0#32).sle w <;> cases e2 : w.slt 64#32 <;> rw [e1] at h1 <;> rw [e2] at h2 <;> simp at h1 h2 ⊢ <;> omega

theorem idx_val (L : grid0.Coords) (a b : Vec F S16 .i32) (hb : ∀ x, @BitVec.toNat 32 (b x) < 2000) (x : S16.Idx) :
    (k0_pay5 (F := F) L a b x).toNat
      = (if k0_pay4 (F := F) L a x = 1#1 then (k0_pay3 (F := F) L a x).toNat else 0) * 2000 + @BitVec.toNat 32 (b x) := by
  have hbx := hb x
  show ((if k0_pay4 (F := F) L a x = 1#1 then k0_pay3 (F := F) L a x else 0#32) * 2000#32 + (b x : BitVec 32)).toNat = _
  have hm := mask_iff L a x
  rw [BitVec.toNat_add, BitVec.toNat_mul]
  split
  · rename_i h
    have := hm.1 h
    simp only [BitVec.toNat_ofNat]; omega
  · simp only [BitVec.toNat_ofNat]; omega

theorem chk_ok (L : grid0.Coords) (a b : Vec F S16 .i32) (hb : ∀ x, @BitVec.toNat 32 (b x) < 2000) :
    k0_chk1 (k0_pay5 (F := F) L a b) := by
  unfold k0_chk1
  intro i x
  have hi : i = 0 := Subsingleton.elim _ _
  subst hi
  show ((k0_pay5 (F := F) L a b) x).toNat < 128000
  have hbx := hb x
  rw [idx_val L a b hb x]
  have hm := mask_iff L a x
  split
  · rename_i h
    have := hm.1 h
    omega
  · omega

/-! ## The task -/

section Tile

local notation "nW" => (Memref.whole Cert.KernelIdeal.main_v1_scv : Memref Cert.KernelIdeal.sig Kind.scVector Space.hbm Cert.KernelIdeal.S320000 EltTy.i32)
local notation "eW" => (Memref.whole Cert.KernelIdeal.main_v3_scv : Memref Cert.KernelIdeal.sig Kind.scVector Space.hbm Cert.KernelIdeal.S320000 EltTy.i32)
local notation "oW" => (Memref.whole Cert.KernelIdeal.main_v4_scv : Memref Cert.KernelIdeal.sig Kind.scVector Space.hbm Cert.KernelIdeal.S4096000 EltTy.f32)
local notation "sH" => (Memref.whole Cert.KernelIdeal.cc0_scratch0 : Memref Cert.KernelIdeal.sig Kind.scVector Space.vmem Cert.KernelIdeal.S128000 EltTy.f32)
local notation "sN" => (Memref.whole Cert.KernelIdeal.cc0_scratch1 : Memref Cert.KernelIdeal.sig Kind.scVector Space.vmem Cert.KernelIdeal.S1280 EltTy.i32)
local notation "sE" => (Memref.whole Cert.KernelIdeal.cc0_scratch2 : Memref Cert.KernelIdeal.sig Kind.scVector Space.vmem Cert.KernelIdeal.S1280 EltTy.i32)

abbrev nLoc (d : Dev nD) : Loc nD τ sig := (SparseCore.T d).loc main_v1
abbrev eLoc (d : Dev nD) : Loc nD τ sig := (SparseCore.T d).loc main_v3
abbrev oLoc (d : Dev nD) : Loc nD τ sig := (SparseCore.T d).loc main_v4

abbrev cV (L : grid0.Coords) : Fin τ.nSC := (L 0).castLE hcore0
abbrev jV (L : grid0.Coords) : Fin τ.nSub := (L 1).castLE hsub0

variable (d : Dev nD) (L : grid0.Coords) (n e : Vec F S320000 .i32) (o : Buf (Elt F) (oLoc d)) (q : PosShare TreeShare)

abbrev thr : Thread nD τ := V d (cV L) (jV L)

/-- The rows this subcore writes out. -/
abbrev oRow : Memref sig .scVector .hbm S128000 .f32 :=
  (oW).slice (Rect.unit (s := S4096000) (k0_off4 L) S128000.size (k0_off4_inb L)) (fun _ => rfl)

abbrev tileSet : Finset S4096000.Idx := (oRow L).view.set

/-- The waits recorded so far: the caller's, and this task's own at index `none`. -/
def owesFrom (O : CellTallies nD τ sig (HIx 1)) (W : Waits sig (HIx 1)) : sProp 𝕄 :=
  iprop(∃ W', ⌜∀ p ∈ W', p ∈ W ∨ p.2 = none⌝ ∗ owes (thr d L) O W')

/-- Clearing: the first `16 k` entries of the local table are zero. -/
def invZ (k : Nat) (_ : PUnit) : sProp 𝕄 :=
  iprop(∃ f : Vec F S128000 .f32, ⌜∀ j : S128000.Idx, (j 0).val < 16 * k → f j = hZero (F := F) j⌝ ∗ ((sH).view.loc (thr d L) ↦{fullShare} f))

/-- Between chunks: the table after `80 k` groups; the chunk buffers at some contents. -/
def invC (O : CellTallies nD τ sig (HIx 1)) (W : Waits sig (HIx 1)) (k : Nat) (_ : PUnit) : sProp 𝕄 :=
  iprop(Transfers.MayWaits (thr d L) (none : HIx 1) O
    ∗ ((nW).view.loc (thr d L) ↦{q} n) ∗ ((eW).view.loc (thr d L) ↦{q} e)
    ∗ ((sH).view.loc (thr d L) ↦{fullShare} hAcc L n e (80 * k))
    ∗ (∃ f, (sN).view.loc (thr d L) ↦{fullShare} f) ∗ (∃ f, (sE).view.loc (thr d L) ↦{fullShare} f)
    ∗ semVal (thr d L, SemLoc.dma cc0_scoped0.sem) 0 ∗ semVal (thr d L, SemLoc.dma cc0_scoped1.sem) 0
    ∗ owesFrom (F := F) d L O W)

/-- Within chunk `k`: the chunk's entries of the two lists, and the table after the groups done. -/
def invG (k : Nat) (fn fe : Vec F S1280 .i32) (g : Nat) (_ : PUnit) : sProp 𝕄 :=
  iprop(((sH).view.loc (thr d L) ↦{fullShare} hAcc L n e (80 * k + g))
    ∗ ((sN).view.loc (thr d L) ↦{fullShare} fn) ∗ ((sE).view.loc (thr d L) ↦{fullShare} fe))

theorem idx_one {N : ℕ} (j : Shape.Idx ⟨1, ![N]⟩) (a : Fin N) (h : (j 0).val = a.val) : Shape.ofLane (d := ![N]) a = j := by
  funext i
  have hi : i = 0 := Subsingleton.elim _ _
  subst hi
  exact Fin.ext h.symm

/-- Chunk `k` of a list of pairs' ends. -/
def chunk (v : Vec F S320000 .i32) (k : ℕ) : Vec F S1280 .i32 :=
  fun x => v (Shape.ofLane (d := ![320000]) ⟨(1280 * k + (x 0).val) % 320000, Nat.mod_lt _ (by decide)⟩)

theorem trips2 : k0_t2_loop.trips = 250 := by decide
theorem trips3 : k0_t3_loop.trips = 80 := by decide

theorem chunk_n (k : Fin k0_t2_loop.trips) (g : Vec F S1280 .i32) :
    (View.write (Elt F) (sN).view g (((nW).slice (Rect.unit (s := S320000) (k0_off2 k) S1280.size (k0_off2_inb k)) (fun _ => rfl)).view.read (Elt F) n) Finset.univ : Vec F S1280 .i32)
      = chunk (F := F) n k.val := by
  refine (View.write_whole_univ (cc0_scratch1 : Ref sig .scVector) _ _).trans ?_
  funext x
  have hk : k.val < 250 := trips2 ▸ k.isLt
  have hx : (x 0).val < 1280 := (x 0).isLt
  refine (cast_eq _ _).trans (congrArg n (idx_one _ _ ?_).symm)
  have h2 : k0_off2 k (0 : Fin 1) = 1280 * k.val := congrFun (k0_off2_eq k) 0
  show k0_off2 k (0 : Fin 1) + 1 * (x 0).val = (1280 * k.val + (x 0).val) % 320000
  omega

theorem chunk_e (k : Fin k0_t2_loop.trips) (g : Vec F S1280 .i32) :
    (View.write (Elt F) (sE).view g (((eW).slice (Rect.unit (s := S320000) (k0_off2 k) S1280.size (k0_off2_inb k)) (fun _ => rfl)).view.read (Elt F) e) Finset.univ : Vec F S1280 .i32)
      = chunk (F := F) e k.val := chunk_n (F := F) e k g

theorem group_n (k : Fin k0_t2_loop.trips) (t : Fin k0_t3_loop.trips) :
    ((sN).view.readAt (Elt F) (Rect.unit (s := S1280) (k0_off3 t) S16.size (k0_off3_inb t)).toLoadRect (chunk (F := F) n k.val) : Vec F S16 .i32)
      = lanes (F := F) n (80 * k.val + t.val) := by
  funext x
  have hk : k.val < 250 := trips2 ▸ k.isLt
  have ht : t.val < 80 := trips3 ▸ t.isLt
  have hx : (x 0).val < 16 := (x 0).isLt
  refine congrArg n (congrArg (Shape.ofLane (d := ![320000])) (Fin.ext ?_))
  show (1280 * k.val + (k0_off3 t (0 : Fin 1) + 1 * (x 0).val)) % 320000 = (16 * (80 * k.val + t.val) + (x 0).val) % 320000
  have h3 : k0_off3 t (0 : Fin 1) = 16 * t.val := congrFun (k0_off3_eq t) 0
  omega

theorem group_e (k : Fin k0_t2_loop.trips) (t : Fin k0_t3_loop.trips) :
    ((sE).view.readAt (Elt F) (Rect.unit (s := S1280) (k0_off3 t) S16.size (k0_off3_inb t)).toLoadRect (chunk (F := F) e k.val) : Vec F S16 .i32)
      = lanes (F := F) e (80 * k.val + t.val) := group_n (F := F) e k t

theorem lanes_ok (he : ColOK (F := F) e) (t : ℕ) (x : S16.Idx) : @BitVec.toNat 32 (lanes (F := F) e t x) < 2000 := he _

/-- The whole array of counts: 64 rows from every subcore, subcore `2 * (L 1) + (L 0)` writing rows from `64` times its number. -/
def coordsOf (w : ℕ) : grid0.Coords := fun
  | 0 => (⟨w % 2, Nat.mod_lt _ (by decide)⟩ : Fin 2) | 1 => (⟨w / 2 % 16, Nat.mod_lt _ (by decide)⟩ : Fin 16) | ⟨_ + 2, h⟩ => absurd h (Nat.not_lt.2 (Nat.le_add_left _ _))

def outH : Vec F S4096000 .f32 := fun j =>
  hAcc (coordsOf ((j 0).val / 128000)) n e 20000 (Shape.ofLane (d := ![128000]) ⟨(j 0).val % 128000, Nat.mod_lt _ (by decide)⟩)

theorem coordsOf_num (L : grid0.Coords) : coordsOf (2 * (L 1).val + (L 0).val) = L := by
  have h0 : (L 0).val < 2 := (L 0).isLt
  have h1 : (L 1).val < 16 := (L 1).isLt
  funext i
  match i with
  | 0 => exact Fin.ext (show (2 * (L 1).val + (L 0).val) % 2 = _ by omega)
  | 1 => exact Fin.ext (show (2 * (L 1).val + (L 0).val) / 2 % 16 = _ by omega)

theorem outH_emb (x : S128000.Idx) : outH (F := F) n e ((oRow L).view.emb x) = hAcc (F := F) L n e 20000 x := by
  have h0 : (L 0).val < 2 := (L 0).isLt
  have h1 : (L 1).val < 16 := (L 1).isLt
  have hx : (x 0).val < 128000 := (x 0).isLt
  have hv : ((oRow L).view.emb x 0).val = 128000 * (2 * (L 1).val + (L 0).val) + (x 0).val := by
    have h4 : k0_off4 L (0 : Fin 1) = 256000 * (L 1).val + 128000 * (L 0).val := congrFun (k0_off4_eq L) 0
    show k0_off4 L (0 : Fin 1) + 1 * (x 0).val = _
    omega
  unfold outH
  rw [show ((oRow L).view.emb x 0).val / 128000 = 2 * (L 1).val + (L 0).val by rw [hv]; omega, coordsOf_num]
  exact congrArg _ (idx_one _ _ (by show _ = ((oRow L).view.emb x 0).val % 128000; rw [hv]; omega))

theorem grp_eq (t : ℕ) (a b : Vec F S16 .i32) (ha : a = lanes (F := F) n t) (hb : b = lanes (F := F) e t) (h : k0_chk1 (k0_pay5 (F := F) L a b)) (f : Vec F S128000 .f32) :
    storeIdx f ![k0_pay5 (F := F) L a b] (k0_pay2 (F := F)) (k0_pay4 (F := F) L a) true (k0_idx1_inb _ h) = grpStep (F := F) L n e t f := by
  subst ha hb; exact (dif_pos h).symm

omit [FloatOps F] in
theorem pts_sH (f : Vec F S128000 .f32) :
    (((sH).access (.whole S128000)).loc (thr d L) ↦[((sH).access (.whole S128000)).set]{fullShare} f : sProp 𝕄)
      = ((sH).view.loc (thr d L) ↦{fullShare} f) := by
  rw [show ((sH).access (.whole S128000)).set = Finset.univ from Memref.set_access_whole (cc0_scratch0 : Ref sig .scVector)]

theorem tbl_step (t : ℕ) (a b : Vec F S16 .i32) (ha : a = lanes (F := F) n t) (hb : b = lanes (F := F) e t) (h : k0_chk1 (k0_pay5 (F := F) L a b)) (f : Vec F S128000 .f32) :
    (((sH).access (.whole S128000)).write (Elt F) f (storeIdx (((sH).access (.whole S128000)).read (Elt F) f) ![k0_pay5 (F := F) L a b] (k0_pay2 (F := F))
        (k0_pay4 (F := F) L a) true (k0_idx1_inb _ h)) Finset.univ : Vec F S128000 .f32) = grpStep (F := F) L n e t f := by
  have hr : (((sH).access (.whole S128000)).read (Elt F) f : Vec F S128000 .f32) = f := Memref.read_access_whole (Elt F) (cc0_scratch0 : Ref sig .scVector) f
  refine (Memref.write_access_whole_univ (Elt F) (cc0_scratch0 : Ref sig .scVector) f _).trans ?_
  exact (congrArg (fun g : Vec F S128000 .f32 => storeIdx g ![k0_pay5 (F := F) L a b] (k0_pay2 (F := F)) (k0_pay4 (F := F) L a) true (k0_idx1_inb _ h)) hr).trans
    (grp_eq (F := F) L n e t a b ha hb h f)

theorem out_lands (x : S128000.Idx) :
    (oRow L).view.writes (Elt F) o [⟨Rect.whole S128000, (sH).view.read (Elt F) (hAcc (F := F) L n e 20000)⟩] ((oRow L).view.emb x)
      = hAcc (F := F) L n e 20000 x := by
  have h := View.read_writes_cons_emb (oRow L).view o (Rect.whole S128000) ((sH).view.read (Elt F) (hAcc (F := F) L n e 20000)) [] x
  rw [show (Rect.whole S128000).emb x = x from funext fun a => Fin.ext (by show 0 + 1 * (x a).val = _; omega), View.read_apply, View.read_apply] at h
  exact (cast_eq _ _).symm.trans (h.trans (cast_eq _ _))

set_option maxHeartbeats 1000000 in
theorem body_run (he : ColOK (F := F) e) (O : CellTallies nD τ sig (HIx 1)) (W : Waits sig (HIx 1)) :
    iprop(Transfers.MayWaits (thr d L) (none : HIx 1) O
        ∗ ((nW).view.loc (thr d L) ↦{q} n) ∗ ((eW).view.loc (thr d L) ↦{q} e)
        ∗ ((oRow L).view.loc (thr d L) ↦[(oRow L).view.set]{fullShare} o)
        ∗ (∃ f, (sH).view.loc (thr d L) ↦{fullShare} f) ∗ (∃ f, (sN).view.loc (thr d L) ↦{fullShare} f) ∗ (∃ f, (sE).view.loc (thr d L) ↦{fullShare} f)
        ∗ semVal (thr d L, SemLoc.dma cc0_scoped0.sem) 0 ∗ semVal (thr d L, SemLoc.dma cc0_scoped1.sem) 0 ∗ semVal (thr d L, SemLoc.dma cc0_scoped2.sem) 0
        ∗ owes (thr d L) O W)
      ⊢ wp frame (wpE (defs₀ (F := F)) 𝒱₀ (thr d L) none) Set.univ
          (cc0__hbuild_body L nW (Memref.isWhole_whole _) eW (Memref.isWhole_whole _) oW (Memref.isWhole_whole _)
            sH (Memref.isWhole_whole _) sN (Memref.isWhole_whole _) sE (Memref.isWhole_whole _) cc0_scoped0 cc0_scoped1 cc0_scoped2)
          fun _ => iprop(((nW).view.loc (thr d L) ↦{q} n) ∗ ((eW).view.loc (thr d L) ↦{q} e)
            ∗ ((oRow L).view.loc (thr d L) ↦[(oRow L).view.set]{fullShare} outH (F := F) n e)
            ∗ (∃ f, (sH).view.loc (thr d L) ↦{fullShare} f) ∗ (∃ f, (sN).view.loc (thr d L) ↦{fullShare} f) ∗ (∃ f, (sE).view.loc (thr d L) ↦{fullShare} f)
            ∗ semVal (thr d L, SemLoc.dma cc0_scoped0.sem) 0 ∗ semVal (thr d L, SemLoc.dma cc0_scoped1.sem) 0 ∗ semVal (thr d L, SemLoc.dma cc0_scoped2.sem) 0
            ∗ owesFrom (F := F) d L O W) := by
  rw [cc0__hbuild_body_eq_skeleton]; unfold cc0__hbuild_body_skel
  iintro ⟨Hmw, Hn, He, Ho, ⟨%fh, Hh⟩, ⟨%fn, HN⟩, ⟨%fe, HE⟩, Hs0, Hs1, Hs2, HO⟩
  sl_for (invZ (F := F) d L) $$ [Hh]
  case region =>
    intro k _
    unfold invZ
    iintro ⟨%f, %hf, Hh⟩
    sl_exec
    sl_step
    iexists _; isplitr; rotate_left
    · iexact Hh
    ipureintro; intro j hj
    refine (View.read_writes_cons_unit (sH).view f (k0_off1_inb k) (k0_pay1 (F := F)) [] j (k0_off1_eq k)).trans ?_
    split
    · rfl
    · rename_i h
      refine hf j ?_
      by_contra hlt
      refine h fun a => ?_
      have ha : a = (0 : Fin 1) := Subsingleton.elim (α := Fin 1) _ _
      subst ha
      show 16 * k.val ≤ (j 0).val ∧ (j 0).val < 16 * k.val + 16
      omega
  · unfold invZ
    iexists fh; isplitr
    · ipureintro; intro j hj; omega
    · iexact Hh
  iintro %_ HI
  unfold invZ
  icases HI with ⟨%f, %hf, Hh⟩
  have hf0 : f = hAcc L n e (80 * 0) := funext fun j => hf j (by
    have := (j 0).isLt
    show _ < 16 * k0_t1_loop.trips
    rw [show k0_t1_loop.trips = 8000 by decide]; exact this)
  subst hf0
  sl_for (invC (F := F) d L n e q O W) $$ [Hmw Hn He Hh HN HE Hs0 Hs1 HO]
  case region =>
    intro k _
    unfold invC owesFrom
    iintro ⟨Hmw, Hn, He, Hh, ⟨%gn, HN⟩, ⟨%ge, HE⟩, Hs0, Hs1, %W', %hW', HO⟩
    sl_exec (disch := exact View.amount_pos _ _ (show 0 < _ by decide))
    unfold body_run.sl.dma0 body_run.sl.dma0_1
    ihave HN' := (Entails.of_eq (congrArg (fun f => ((sN).view.loc (thr d L) ↦{fullShare} f : sProp 𝕄)) (chunk_n (F := F) n k gn))) $$ HN
    ihave HE' := (Entails.of_eq (congrArg (fun f => ((sE).view.loc (thr d L) ↦{fullShare} f : sProp 𝕄)) (chunk_e (F := F) e k ge))) $$ HE
    sl_for (invG (F := F) d L n e k.val (chunk (F := F) n k.val) (chunk (F := F) e k.val)) $$ [Hh HN' HE']
    case region =>
      intro t _
      unfold invG
      iintro ⟨Hh, HN, HE⟩
      sl_exec
      unfold body_run.sl.v28
      have hb : ((sE).view.readAt (Elt F) (Rect.unit (s := S1280) (k0_off3 t) S16.size (k0_off3_inb t)).toLoadRect (chunk (F := F) e k.val) : Vec F S16 .i32)
          = lanes (F := F) e (80 * k.val + t.val) := group_e (F := F) e k t
      have hchk : k0_chk1 (k0_pay5 (F := F) L
          ((sN).view.readAt (Elt F) (Rect.unit (s := S1280) (k0_off3 t) S16.size (k0_off3_inb t)).toLoadRect (chunk (F := F) n k.val))
          ((sE).view.readAt (Elt F) (Rect.unit (s := S1280) (k0_off3 t) S16.size (k0_off3_inb t)).toLoadRect (chunk (F := F) e k.val))) :=
        chk_ok (F := F) L _ _ fun x => by rw [hb]; exact lanes_ok (F := F) e he _ x
      rw [wp_assume_of _ _ _ _ hchk]
      ihave Hh' := (Entails.of_eq (pts_sH (F := F) d L _).symm) $$ Hh
      iapply (SparseCore.wp_vectorStoreIdx 𝒱₀ (thr d L) none Set.univ (base := sH)) $$ Hh'
      iintro Hh'
      ihave Hh := (Entails.of_eq (pts_sH (F := F) d L _)) $$ Hh'
      sl_step
      rw [show hAcc (F := F) L n e (80 * k.val + (t.val + 1)) = grpStep (F := F) L n e (80 * k.val + t.val) (hAcc (F := F) L n e (80 * k.val + t.val)) from rfl]
      ihave Hh2 := (Entails.of_eq (congrArg (fun f => ((sH).view.loc (thr d L) ↦{fullShare} f : sProp 𝕄))
        (tbl_step (F := F) L n e (80 * k.val + t.val) _ _ (group_n (F := F) n k t) hb hchk (hAcc (F := F) L n e (80 * k.val + t.val))))) $$ Hh
      isplitl [Hh2]; · iexact Hh2
      isplitl [HN] <;> iassumption
    · unfold invG
      isplitl [Hh]; · iexact Hh
      isplitl [HN'] <;> iassumption
    iintro %_ HI
    unfold invG
    icases HI with ⟨Hh, HN, HE⟩
    sl_step
    isplitl [Hmw]; · iexact Hmw
    isplitl [Hn]; · iexact Hn
    isplitl [He]; · iexact He
    isplitl [Hh]
    · rw [show Scf.trips k0_t3_loop.lb k0_t3_loop.ub k0_t3_loop.st = 80 from trips3, show 80 * (k.val + 1) = 80 * k.val + 80 by omega]; iexact Hh
    isplitl [HN]; · iexists _; iexact HN
    isplitl [HE]; · iexists _; iexact HE
    isplitl [Hs0]; · iexact Hs0
    isplitl [Hs1]; · iexact Hs1
    iexists _; isplitr; rotate_left
    · iexact HO
    ipureintro; intro p hp
    rcases Finset.mem_insert.mp hp with rfl | hp
    · exact .inr rfl
    rcases Finset.mem_insert.mp hp with rfl | hp
    · exact .inr rfl
    exact hW' p hp
  · unfold invC owesFrom
    isplitl [Hmw]; · iexact Hmw
    isplitl [Hn]; · iexact Hn
    isplitl [He]; · iexact He
    isplitl [Hh]; · iexact Hh
    isplitl [HN]; · iexists _; iexact HN
    isplitl [HE]; · iexists _; iexact HE
    isplitl [Hs0]; · iexact Hs0
    isplitl [Hs1]; · iexact Hs1
    iexists W; isplitr
    · ipureintro; exact fun p hp => .inl hp
    · iexact HO
  iintro %_ HI
  unfold invC owesFrom
  icases HI with ⟨Hmw, Hn, He, Hh, ⟨%gn, HN⟩, ⟨%ge, HE⟩, Hs0, Hs1, %W', %hW', HO⟩
  rw [show Scf.trips k0_t2_loop.lb k0_t2_loop.ub k0_t2_loop.st = 250 from trips2, show 80 * 250 = 20000 by rfl]
  sl_exec (disch := exact View.amount_pos _ _ (show 0 < _ by decide))
  unfold body_run.sl.dma0_2
  sl_step
  isplitl [Hn]; · iexact Hn
  isplitl [He]; · iexact He
  isplitl [Ho]
  · iapply (Entails.of_eq (pointsTo_congr (ℓ := (oRow L).view.loc (thr d L)) (q := fullShare) ?_)) $$ Ho
    intro j hj
    obtain ⟨x, -, rfl⟩ := Finset.mem_map.mp hj
    refine Eq.trans ?_ (outH_emb (F := F) L n e x).symm
    exact out_lands (F := F) d L n e o x
  isplitl [Hh]; · iexists _; iexact Hh
  isplitl [HN]; · iexists _; iexact HN
  isplitl [HE]; · iexists _; iexact HE
  isplitl [Hs0]; · iexact Hs0
  isplitl [Hs1]; · iexact Hs1
  isplitl [Hs2]; · iexact Hs2
  iexists _; isplitr; rotate_left
  · iexact HO
  ipureintro; intro p hp
  rcases Finset.mem_insert.mp hp with rfl | hp
  · exact .inr rfl
  exact hW' p hp

end Tile

end Cert.Proof.Sc
-- ==== Proof.Obl.lean ====
/-  What the launch needs of the SparseCore call: each subcore's storage, the operands dealt to the subcores and joined again, and the task's run as
    the launch theorem asks for it. -/
module

public import proofs.«01_k».proof.Proof.Sc

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Storage
variable (d : Dev nD) (L : grid0.Coords)

abbrev cell0 : GSem nD τ sig := (thr d L, .dma cc0_scoped0.sem)
abbrev cell1 : GSem nD τ sig := (thr d L, .dma cc0_scoped1.sem)
abbrev cell2 : GSem nD τ sig := (thr d L, .dma cc0_scoped2.sem)

theorem ownSems0_V :
    (ownSems0 (thr d L) : sProp 𝕄)
      = iprop(semVal (cell0 d L) 0 ∗ semVal (cell1 d L) 0 ∗ semVal (cell2 d L) 0
          ∗ bigSep ((((ownCells (thr d L)).erase (cell0 d L)).erase (cell1 d L)).erase (cell2 d L)) fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩)]

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

end Storage

/-! ## The operands, dealt -/

section Deal

variable (nv ev : Dev nD → Vec F S320000 .i32) (ov : (d : Dev nD) → Buf (Elt F) (oLoc d))

def coordsV (c : Fin (grid0.bound 0)) (s : Fin (grid0.bound 1)) : grid0.Coords :=
  fun | 0 => c | 1 => s | ⟨_ + 2, h⟩ => absurd h (Nat.not_lt.2 (Nat.le_add_left _ _))

/-- A SparseCore's share of the two lists, and a subcore's share of that. -/
abbrev qC (c : Fin 2) : PosShare TreeShare := Transfers.shareTok fullShare 2 c
abbrev qT (c : Fin 2) (i : Fin 16) : PosShare TreeShare := Transfers.shareTok (qC c) 16 i

abbrev setC (c : Fin 2) : Finset S4096000.Idx := Finset.univ.biUnion fun i : Fin 16 => tileSet (coordsV c i)

def stP (d : Dev nD) (c : Fin 2) (f : Buf (Elt F) (oLoc d)) : sProp 𝕄 :=
  iprop((nLoc d ↦{qC c} nv d) ∗ (eLoc d ↦{qC c} ev d) ∗ (oLoc d ↦[setC c]{fullShare} f))
def goP (d : Dev nD) (c : Fin 2) (i : Fin 16) (f : Buf (Elt F) (oLoc d)) : sProp 𝕄 :=
  iprop((nLoc d ↦{qT c i} nv d) ∗ (eLoc d ↦{qT c i} ev d) ∗ (oLoc d ↦[tileSet (coordsV c i)]{fullShare} f))

instance stP_storable (d : Dev nD) (c : Fin 2) (f : Buf (Elt F) (oLoc d)) : BI.Storable (upEmb : UEmb _ 𝕄) (stP nv ev d c f) := by
  unfold stP; infer_instance
instance goP_storable (d : Dev nD) (c : Fin 2) (i : Fin 16) (f : Buf (Elt F) (oLoc d)) : BI.Storable (upEmb : UEmb _ 𝕄) (goP nv ev d c i f) := by
  unfold goP; infer_instance

theorem nCore_zero : (K (F := F)).nCore 0 = 2 := rfl
theorem nSub_zero : (K (F := F)).nSub 0 = 16 := rfl

def P : (K (F := F)).Pay (nD := nD) (Val := Elt F) (Name := ℕ) (U := UU) where
  st := fun q d c => match q with | 0 => stP nv ev d (Fin.cast nCore_zero c) (ov d)
  dn := fun q d c => match q with | 0 => stP nv ev d (Fin.cast nCore_zero c) (outH (F := F) (nv d) (ev d))
  go := fun q d c i => match q with | 0 => goP nv ev d (Fin.cast nCore_zero c) (Fin.cast nSub_zero i) (ov d)
  td := fun q d c i => match q with | 0 => goP nv ev d (Fin.cast nCore_zero c) (Fin.cast nSub_zero i) (outH (F := F) (nv d) (ev d))
  x := fun _ _ => iprop(emp)

instance P_storable : (P nv ev ov).IsStorable where
  st q d c := match q with | 0 => stP_storable nv ev d _ _
  dn q d c := match q with | 0 => stP_storable nv ev d _ _
  go q d c i := match q with | 0 => goP_storable nv ev d _ _ _
  td q d c i := match q with | 0 => goP_storable nv ev d _ _ _

end Deal

/-! ## The task's run, as the launch asks for it -/

section Obl

variable (nv ev : Dev nD → Vec F S320000 .i32) (ov : (d : Dev nD) → Buf (Elt F) (oLoc d))

theorem tile_body (hF : (K (F := F)).Facts) (he : ∀ d, ColOK (F := F) (ev d)) (d : Dev nD) (c : Fin 2) (i : Fin 16)
    (O : CellTallies nD τ sig (HIx 1)) (W : Waits sig (HIx 1)) (hO : ∀ g, O g none = 0) :
    iprop(levAts (K (F := F)).L (K (F := F)).lev ∗ emp ∗ goP nv ev d c i (ov d)
        ∗ scopedBufs (thr d (coordsV c i)) ∗ scopedSems0 (thr d (coordsV c i)) ∗ owes (thr d (coordsV c i)) O W)
      ⊢ wp frame (wpE (defs₀ (F := F)) 𝒱₀ (thr d (coordsV c i)) none) Set.univ
          (cc0__hbuild_body (coordsV c i) (Memref.whole main_v1_scv) (Memref.isWhole_whole _) (Memref.whole main_v3_scv) (Memref.isWhole_whole _)
            (Memref.whole main_v4_scv) (Memref.isWhole_whole _) (Memref.whole cc0_scratch0) (Memref.isWhole_whole _) (Memref.whole cc0_scratch1) (Memref.isWhole_whole _)
            (Memref.whole cc0_scratch2) (Memref.isWhole_whole _) cc0_scoped0 cc0_scoped1 cc0_scoped2)
          fun _ => iprop(goP nv ev d c i (outH (F := F) (nv d) (ev d)) ∗ scopedBufs (thr d (coordsV c i)) ∗ scopedSems0 (thr d (coordsV c i))
            ∗ ∃ W', ⌜∀ p ∈ W', p ∈ W ∨ p.2 = none⌝ ∗ owes (thr d (coordsV c i)) O W') := by
  rw [(K (F := F)).scopedBufs_V hF d (cV (coordsV c i)) (jV (coordsV c i)), SparseCore.Cfg.scopedSems0_V (Val := Elt F) d (cV (coordsV c i)) (jV (coordsV c i)),
    ownSems0_V, ownBufs_V]
  unfold goP
  iintro ⟨#Hlv, -, ⟨Hn, He, Ho⟩, ⟨H0, H1, H2, Hbufs⟩, ⟨Hs0, Hs1, Hs2, Hsems⟩, HO⟩
  ihave Hmw := ((K (F := F)).mayWaits_none (thr := thr d (coordsV c i)) hO) $$ Hlv
  iapply (wp_wand_r frame _ _)
  isplitl [Hmw Hn He Ho H0 H1 H2 Hs0 Hs1 Hs2 HO]
  · iapply (body_run (F := F) d (coordsV c i) (nv d) (ev d) (ov d) (qT c i) (he d) O W)
    isplitl [Hmw]; · iexact Hmw
    isplitl [Hn]; · iexact Hn
    isplitl [He]; · iexact He
    isplitl [Ho]; · iexact Ho
    isplitl [H0]; · iexact H0
    isplitl [H1]; · iexact H1
    isplitl [H2]; · iexact H2
    isplitl [Hs0]; · iexact Hs0
    isplitl [Hs1]; · iexact Hs1
    isplitl [Hs2]; · iexact Hs2
    iexact HO
  iintro %_ ⟨Hn, He, Ho, H0, H1, H2, Hs0, Hs1, Hs2, HO⟩
  isplitl [Hn He Ho]
  · isplitl [Hn]; · iexact Hn
    isplitl [He]; · iexact He
    iexact Ho
  isplitl [H0 H1 H2 Hbufs]
  · isplitl [H0]; · iexact H0
    isplitl [H1]; · iexact H1
    isplitl [H2]; · iexact H2
    iexact Hbufs
  isplitl [Hs0 Hs1 Hs2 Hsems]
  · isplitl [Hs0]; · iexact Hs0
    isplitl [Hs1]; · iexact Hs1
    isplitl [Hs2]; · iexact Hs2
    iexact Hsems
  unfold owesFrom
  iexact HO

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector (c : Fin τ.nSC) (s : Fin τ.nSub) :
    defs₀ (F := F) (.scVector c s) 0 ()
      = SparseCore.onTile hcore0 hsub0 (fun c s => cc0__hbuild_body (coordsV c s)
          (Memref.whole main_v1_scv) (Memref.isWhole_whole _) (Memref.whole main_v3_scv) (Memref.isWhole_whole _)
          (Memref.whole main_v4_scv) (Memref.isWhole_whole _) (Memref.whole cc0_scratch0) (Memref.isWhole_whole _) (Memref.whole cc0_scratch1) (Memref.isWhole_whole _)
          (Memref.whole cc0_scratch2) (Memref.isWhole_whole _) cc0_scoped0 cc0_scoped1 cc0_scoped2) ⟨⟩ c s := rfl

set_option maxRecDepth 1024 in
theorem tileObl (hF : (K (F := F)).Facts) (he : ∀ d, ColOK (F := F) (ev d)) : (K (F := F)).TileObl (D (F := F)) 𝒱 (P nv ev ov) v₀ 0 := by
  intro d c i O W hO _ _
  simp only [show (P nv ev ov).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body nv ev ov hF he d ⟨_, hc.1⟩ ⟨_, hc.2⟩ O W hO).trans (wp_mono frame _ _ fun _ => obl_post)

/-! ## Dealing the operands out and joining them again -/

theorem emb_val (L : grid0.Coords) (x : S128000.Idx) : ((oRow L).view.emb x 0).val = 128000 * (2 * (L 1).val + (L 0).val) + (x 0).val := by
  have h4 : k0_off4 L (0 : Fin 1) = 256000 * (L 1).val + 128000 * (L 0).val := congrFun (k0_off4_eq L) 0
  show k0_off4 L (0 : Fin 1) + 1 * (x 0).val = _
  omega

/-- A subcore's rows are the entries of its own block of 128000. -/
theorem mem_tileSet (L : grid0.Coords) (j : S4096000.Idx) : j ∈ tileSet L ↔ (j 0).val / 128000 = 2 * (L 1).val + (L 0).val := by
  constructor
  · intro h
    obtain ⟨x, -, rfl⟩ := Finset.mem_map.mp h
    have hx : (x 0).val < 128000 := (x 0).isLt
    rw [emb_val]; omega
  · intro h
    refine Finset.mem_map.mpr ⟨Shape.ofLane (d := ![128000]) ⟨(j 0).val % 128000, Nat.mod_lt _ (by decide)⟩, Finset.mem_univ _, ?_⟩
    funext a
    have ha : a = (0 : Fin 1) := Subsingleton.elim (α := Fin 1) _ _
    subst ha
    refine Fin.ext ((emb_val L _).trans ?_)
    show 128000 * (2 * (L 1).val + (L 0).val) + (j 0).val % 128000 = (j 0).val
    omega

theorem mem_setC (c : Fin 2) (j : S4096000.Idx) : j ∈ setC c ↔ (j 0).val / 128000 % 2 = c.val := by
  have hj : (j 0).val < 4096000 := (j 0).isLt
  have hc := c.isLt
  simp only [setC, Finset.mem_biUnion, Finset.mem_univ, true_and, mem_tileSet]
  constructor
  · rintro ⟨i, h⟩
    have h' : (j 0).val / 128000 = 2 * i.val + c.val := h
    omega
  · intro h
    refine ⟨⟨(j 0).val / 128000 / 2, by omega⟩, ?_⟩
    show (j 0).val / 128000 = 2 * ((j 0).val / 128000 / 2) + c.val
    omega

theorem tiles_disjoint (c : Fin 2) : ∀ i ∈ (Finset.univ : Finset (Fin 16)), ∀ k ∈ (Finset.univ : Finset (Fin 16)), i ≠ k →
    Disjoint (tileSet (coordsV c i)) (tileSet (coordsV c k)) := fun i _ k _ h => Finset.disjoint_left.mpr fun j hi hk => h (by
  have h1 : (j 0).val / 128000 = 2 * i.val + c.val := (mem_tileSet _ j).mp hi
  have h2 : (j 0).val / 128000 = 2 * k.val + c.val := (mem_tileSet _ j).mp hk
  exact Fin.ext (by omega))

theorem cores_disjoint : ∀ i ∈ (Finset.univ : Finset (Fin 2)), ∀ k ∈ (Finset.univ : Finset (Fin 2)), i ≠ k → Disjoint (setC i) (setC k) :=
  fun i _ k _ h => Finset.disjoint_left.mpr fun j hi hk => h (Fin.ext (((mem_setC i j).mp hi).symm.trans ((mem_setC k j).mp hk)))

theorem cores_cover : (Finset.univ : Finset (Fin 2)).biUnion setC = Finset.univ := by
  ext j
  refine ⟨fun _ => Finset.mem_univ _, fun _ => Finset.mem_biUnion.mpr ?_⟩
  exact ⟨⟨(j 0).val / 128000 % 2, Nat.mod_lt _ (by decide)⟩, Finset.mem_univ _, (mem_setC _ j).mpr rfl⟩

omit [FloatOps F] in
theorem o_tiles (d : Dev nD) (c : Fin 2) (f : Buf (Elt F) (oLoc d)) :
    (oLoc d ↦[setC c]{fullShare} f : sProp 𝕄) = bigSep Finset.univ fun i : Fin 16 => oLoc d ↦[tileSet (coordsV c i)]{fullShare} f :=
  pointsTo_biUnion Finset.univ (ℓ := oLoc d) (fun i : Fin 16 => tileSet (coordsV c i)) (tiles_disjoint c)

omit [FloatOps F] in
theorem o_cores (d : Dev nD) (f : Buf (Elt F) (oLoc d)) :
    (oLoc d ↦{fullShare} f : sProp 𝕄) = bigSep Finset.univ fun c : Fin 2 => oLoc d ↦[setC c]{fullShare} f := by
  rw [← pointsTo_biUnion Finset.univ (ℓ := oLoc d) setC cores_disjoint, cores_cover]

omit [FloatOps F] in
theorem bigSep_tasks (Φ : Fin 16 → sProp 𝕄) [FloatOps F] :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P nv ev ov) 0 := by
  intro d c
  show stP nv ev d (Fin.cast nCore_zero c) (ov d) ⊢ |={Set.univ}=> iprop(
      (bigSep Finset.univ fun i : Fin ((K (F := F)).nSub 0) => goP nv ev d (Fin.cast nCore_zero c) (Fin.cast nSub_zero i) (ov d))
      ∗ ((bigSep Finset.univ fun i : Fin ((K (F := F)).nSub 0) => goP nv ev d (Fin.cast nCore_zero c) (Fin.cast nSub_zero i) (outH (F := F) (nv d) (ev d)))
          -∗ stP nv ev d (Fin.cast nCore_zero c) (outH (F := F) (nv d) (ev d))))
  generalize Fin.cast nCore_zero c = c
  rw [bigSep_tasks (F := F) (fun i => goP nv ev d c i (ov d)), bigSep_tasks (F := F) (fun i => goP nv ev d c i (outH (F := F) (nv d) (ev d)))]
  unfold goP stP
  rw [bigSep_sep', bigSep_sep', bigSep_sep', bigSep_sep', o_tiles, o_tiles]
  iintro ⟨Hn, He, Ho⟩
  ihave Hn' := (Transfers.pointsTo_toks_split (qC c) 16) $$ Hn
  ihave He' := (Transfers.pointsTo_toks_split (qC c) 16) $$ He
  icases Hn' with ⟨Hnr, Hn⟩
  icases He' with ⟨Her, He⟩
  imodintro
  isplitl [Hn He Ho]
  · isplitl [Hn]; · iexact Hn
    isplitl [He]; · iexact He
    iexact Ho
  iintro ⟨Hn, He, Ho⟩
  isplitl [Hn Hnr]
  · iapply (Transfers.pointsTo_toks_join (qC c) 16)
    isplitl [Hnr]; · iexact Hnr
    iexact Hn
  isplitl [He Her]
  · iapply (Transfers.pointsTo_toks_join (qC c) 16)
    isplitl [Her]; · iexact Her
    iexact He
  iexact Ho

omit [FloatOps F] in
theorem bigSep_cores (Φ : Fin 2 → sProp 𝕄) [FloatOps F] :
    (bigSep Finset.univ fun c : Fin ((K (F := F)).nCore 0) => Φ (Fin.cast nCore_zero c)) = bigSep Finset.univ Φ :=
  bigSep_congr fun _ _ => congrArg Φ (Fin.ext rfl)

/-- What the TensorCore keeps of the two lists while the SparseCores read them. -/
def kept (d : Dev nD) : sProp 𝕄 :=
  iprop((nLoc d ↦{Transfers.shareDrop fullShare 2} nv d) ∗ (eLoc d ↦{Transfers.shareDrop fullShare 2} ev d))

/-- The call's operands from the three arrays, -/
theorem st_intro (d : Dev nD) :
    iprop((nLoc d ↦{fullShare} nv d) ∗ (eLoc d ↦{fullShare} ev d) ∗ (oLoc d ↦{fullShare} ov d) : sProp 𝕄)
      ⊢ iprop((bigSep Finset.univ fun c : Fin ((K (F := F)).nCore 0) => (P nv ev ov).st 0 d c) ∗ kept nv ev d) := by
  show _ ⊢ iprop((bigSep Finset.univ fun c : Fin ((K (F := F)).nCore 0) => stP nv ev d (Fin.cast nCore_zero c) (ov d)) ∗ kept nv ev d)
  rw [bigSep_cores (F := F) (fun c => stP nv ev d c (ov d))]
  unfold stP kept
  rw [bigSep_sep', bigSep_sep', o_cores]
  iintro ⟨Hn, He, Ho⟩
  ihave Hn' := (Transfers.pointsTo_toks_split fullShare 2) $$ Hn
  ihave He' := (Transfers.pointsTo_toks_split fullShare 2) $$ He
  icases Hn' with ⟨Hnr, Hn⟩
  icases He' with ⟨Her, He⟩
  isplitl [Hn He Ho]
  · isplitl [Hn]; · iexact Hn
    isplitl [He]; · iexact He
    iexact Ho
  isplitl [Hnr]; · iexact Hnr
  iexact Her

/-- and the arrays back from its results, the counts built. -/
theorem dn_elim (d : Dev nD) :
    iprop((bigSep Finset.univ fun c : Fin ((K (F := F)).nCore 0) => (P nv ev ov).dn 0 d c) ∗ kept nv ev d)
      ⊢ iprop((nLoc d ↦{fullShare} nv d) ∗ (eLoc d ↦{fullShare} ev d) ∗ (oLoc d ↦{fullShare} outH (F := F) (nv d) (ev d)) : sProp 𝕄) := by
  show iprop((bigSep Finset.univ fun c : Fin ((K (F := F)).nCore 0) => stP nv ev d (Fin.cast nCore_zero c) (outH (F := F) (nv d) (ev d))) ∗ kept nv ev d) ⊢ _
  rw [bigSep_cores (F := F) (fun c => stP nv ev d c (outH (F := F) (nv d) (ev d)))]
  unfold stP kept
  rw [bigSep_sep', bigSep_sep', o_cores]
  iintro ⟨⟨Hn, He, Ho⟩, Hnr, Her⟩
  isplitl [Hn Hnr]
  · iapply (Transfers.pointsTo_toks_join fullShare 2)
    isplitl [Hnr]; · iexact Hnr
    iexact Hn
  isplitl [He Her]
  · iapply (Transfers.pointsTo_toks_join fullShare 2)
    isplitl [Her]; · iexact Her
    iexact He
  iexact Ho

end Obl

end Cert.Proof.Sc
-- ==== Proof.Body.lean ====
/-  The three TensorCore bodies, each run once over arbitrary whole staging buffers, with the block it leaves. -/
module

public import proofs.«01_k».proof.Proof.Sc
public import Idealize.ShloMosaic.Lib.Pipeline.Frame
public import Idealize.ShloMosaic.Lib.Pipeline.FrameBody
public import Idealize.ShloMosaic.Lib.Pipeline.Value

@[expose] public section

noncomputable section

namespace Cert.Proof.Body

open Cert.KernelIdeal Cert.KernelIdeal.Gen Cert.Proof.Sc

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

theorem z2 : (![0, 0] : Fin 2 → Nat) = fun _ => 0 := funext fun a => by fin_cases a <;> rfl

/-- A store over the whole block, last, is what a read finds. -/
theorem read_last {S : Shape} {e : EltTy} {sp : Space} (v : View sig .tc sp S e) (f : v.ty.Contents (Elt F)) {off : Fin S.rank → Nat} (h : off = fun _ => 0)
    (inb : ∀ a, off a + S.size a ≤ S.size a) (w : S.Idx → Elt F e) (Ls : List (View.Piece (Elt F) S e)) :
    v.read (Elt F) (v.writes (Elt F) f ((⟨Rect.unit off S.size inb, w⟩ : View.Piece (Elt F) S e) :: Ls)) = w := by
  rw [View.read_writes_eq_canon _ _ _ (fun y => ⟨_, List.mem_cons_self, View.mem_set_unit_zero h inb y⟩), View.canon_cons_unit_zero h]

theorem load_whole {S : Shape} {e : EltTy} {sp : Space} (v : View sig .tc sp S e) (f : v.ty.Contents (Elt F)) {off : Fin S.rank → Nat} (h : off = fun _ => 0)
    (inb : ∀ a, off a + S.size a ≤ S.size a) : v.readAt (Elt F) (Rect.unit off S.size inb).toLoadRect f = v.read (Elt F) f :=
  View.ld_unit_zero h inb _

/-- Plane `p` of a two-plane block. -/
def plane (p : Fin 2) (X : Vec F S2x256x128 .f32) : Vec F S1x256x128 .f32 :=
  View.ld X (Rect.unit (s := S2x256x128) ![p.val, 0, 0] S1x256x128.size (by revert p; decide))

/-- What stage A leaves in its accumulator. -/
def outA (first : Prop) [Decidable first] (X1 : Vec F S256x2000 .f32) (X2 : Vec F S2x256x128 .f32) (X3 : Vec F S128x64 .f32) (X4 : Vec F S2000x192 .f32) : Vec F S2000x192 .f32 :=
  k1_pay2 X1 (plane 0 X2) X3 (plane 1 X2) X3 (if first then k1_pay1 (F := F) else X4)

theorem first_iff (w : BitVec 32) : Scalar.cmpi .ne (Scalar.extui (Scalar.cmpi .eq w 0#32) : BitVec 32) 0#32 = 1#1 ↔ w = 0#32 := by
  by_cases h : w = 0#32
  · subst h; exact ⟨fun _ => rfl, fun _ => by decide⟩
  · refine ⟨fun hc => absurd hc ?_, fun hw => absurd hw h⟩
    have e : Scalar.cmpi .eq w 0#32 = 0#1 := by
      show BitVec.ofBool (w == 0#32) = 0#1
      rw [beq_eq_false_iff_ne.mpr h]; rfl
    rw [e]; decide

set_option maxHeartbeats 1000000 in
theorem bodyA (c : Dev nD) (i : grid1.Coords) (first : Prop) [Decidable first] (hfirst : BitVec.ofNat 32 (i 0).val = 0#32 ↔ first)
    (M1 : Memref sig .tc .vmem S256x2000 .f32) (h1 : M1.IsWhole) (M2 : Memref sig .tc .vmem S2x256x128 .f32) (h2 : M2.IsWhole)
    (M3 : Memref sig .tc .vmem S128x64 .f32) (h3 : M3.IsWhole) (M4 : Memref sig .tc .vmem S2000x192 .f32) (h4 : M4.IsWhole)
    (f1 : Buf (Elt F) (M1.view.loc (c : Thread nD τ))) (f2 : Buf (Elt F) (M2.view.loc (c : Thread nD τ)))
    (f3 : Buf (Elt F) (M3.view.loc (c : Thread nD τ))) (f4 : Buf (Elt F) (M4.view.loc (c : Thread nD τ))) :
    iprop((M1.view.loc (c : Thread nD τ) ↦[M1.view.set]{fullShare} f1) ∗ (M2.view.loc (c : Thread nD τ) ↦[M2.view.set]{fullShare} f2)
        ∗ (M3.view.loc (c : Thread nD τ) ↦[M3.view.set]{fullShare} f3) ∗ (M4.view.loc (c : Thread nD τ) ↦[M4.view.set]{fullShare} f4) : sProp 𝕄)
      ⊢ wp frame (wpE (defs₀ (F := F)) 𝒱₀ (c : Thread nD τ) none) Set.univ (cc1__stage_a i M1 h1 M2 h2 M3 h3 M4 h4) fun _ =>
          iprop((M1.view.loc (c : Thread nD τ) ↦[M1.view.set]{fullShare} f1) ∗ (M2.view.loc (c : Thread nD τ) ↦[M2.view.set]{fullShare} f2)
            ∗ (M3.view.loc (c : Thread nD τ) ↦[M3.view.set]{fullShare} f3)
            ∗ ∃ f, ⌜M4.view.read (Elt F) f = outA first (M1.view.read (Elt F) f1) (M2.view.read (Elt F) f2) (M3.view.read (Elt F) f3) (M4.view.read (Elt F) f4)⌝
              ∗ (M4.view.loc (c : Thread nD τ) ↦[M4.view.set]{fullShare} f)) := by
  rw [cc1__stage_a_eq_skeleton]; unfold cc1__stage_a_skel
  have hc := (first_iff (BitVec.ofNat 32 (i 0).val)).trans hfirst
  unfold outA
  iintro ⟨H1, H2, H3, H4⟩
  by_cases h : first
  · rw [dif_pos (hc.mpr h)]
    sl_exec
    sl_step
    isplitl [H1]; · iexact H1
    isplitl [H2]; · iexact H2
    isplitl [H3]; · iexact H3
    iexists _
    isplitr; swap; · iexact H4
    ipureintro
    refine (read_last M4.view f4 z2 _ _ _).trans ?_
    unfold bodyA.sl.v15 bodyA.sl.H4_1
    rw [View.readCov_unit_zero (S := S2000x192) _ z2, load_whole M1.view f1 z2, load_whole M3.view f3 z2, if_pos h]
    rfl
  · rw [dif_neg (fun e => h (hc.mp e))]
    sl_exec
    sl_step
    isplitl [H1]; · iexact H1
    isplitl [H2]; · iexact H2
    isplitl [H3]; · iexact H3
    iexists _
    isplitr; swap; · iexact H4
    ipureintro
    refine (read_last M4.view f4 z2 _ _ _).trans ?_
    rw [load_whole M1.view f1 z2, load_whole M3.view f3 z2, load_whole M4.view f4 z2, if_neg h]
    rfl

/-- What stage B leaves in its accumulator. -/
def outB (first : Prop) [Decidable first] (X1 : Vec F S256x2000 .f32) (X2 : Vec F S2000x192 .f32) (X3 : Vec F S64x128 .f32) (X4 : Vec F S1x128 .f32) (X5 : Vec F S2000x256 .f32) :
    Vec F S2000x256 .f32 :=
  k2_pay1 (k2_pay3 X1) (k2_pay5 X1 X2 X4 X3) (k2_pay6 X1 X2 X4) X3 (if first then k2_pay2 (F := F) else X5)

set_option maxHeartbeats 1000000 in
theorem bodyB (c : Dev nD) (i : grid2.Coords) (first : Prop) [Decidable first] (hfirst : BitVec.ofNat 32 (i 0).val = 0#32 ↔ first)
    (M1 : Memref sig .tc .vmem S256x2000 .f32) (h1 : M1.IsWhole) (M2 : Memref sig .tc .vmem S2000x192 .f32) (h2 : M2.IsWhole)
    (M3 : Memref sig .tc .vmem S64x128 .f32) (h3 : M3.IsWhole) (M4 : Memref sig .tc .vmem S1x128 .f32) (h4 : M4.IsWhole)
    (M5 : Memref sig .tc .vmem S2000x256 .f32) (h5 : M5.IsWhole)
    (f1 : Buf (Elt F) (M1.view.loc (c : Thread nD τ))) (f2 : Buf (Elt F) (M2.view.loc (c : Thread nD τ)))
    (f3 : Buf (Elt F) (M3.view.loc (c : Thread nD τ))) (f4 : Buf (Elt F) (M4.view.loc (c : Thread nD τ)))
    (f5 : Buf (Elt F) (M5.view.loc (c : Thread nD τ))) :
    iprop((M1.view.loc (c : Thread nD τ) ↦[M1.view.set]{fullShare} f1) ∗ (M2.view.loc (c : Thread nD τ) ↦[M2.view.set]{fullShare} f2)
        ∗ (M3.view.loc (c : Thread nD τ) ↦[M3.view.set]{fullShare} f3) ∗ (M4.view.loc (c : Thread nD τ) ↦[M4.view.set]{fullShare} f4)
        ∗ (M5.view.loc (c : Thread nD τ) ↦[M5.view.set]{fullShare} f5) : sProp 𝕄)
      ⊢ wp frame (wpE (defs₀ (F := F)) 𝒱₀ (c : Thread nD τ) none) Set.univ (cc2__stage_bc i M1 h1 M2 h2 M3 h3 M4 h4 M5 h5) fun _ =>
          iprop((M1.view.loc (c : Thread nD τ) ↦[M1.view.set]{fullShare} f1) ∗ (M2.view.loc (c : Thread nD τ) ↦[M2.view.set]{fullShare} f2)
            ∗ (M3.view.loc (c : Thread nD τ) ↦[M3.view.set]{fullShare} f3) ∗ (M4.view.loc (c : Thread nD τ) ↦[M4.view.set]{fullShare} f4)
            ∗ ∃ f, ⌜M5.view.read (Elt F) f = outB first (M1.view.read (Elt F) f1) (M2.view.read (Elt F) f2) (M3.view.read (Elt F) f3) (M4.view.read (Elt F) f4) (M5.view.read (Elt F) f5)⌝
              ∗ (M5.view.loc (c : Thread nD τ) ↦[M5.view.set]{fullShare} f)) := by
  rw [cc2__stage_bc_eq_skeleton]; unfold cc2__stage_bc_skel
  rw [k2_part1_eq_skeleton]; unfold k2_part1_skel
  have hc := (first_iff (BitVec.ofNat 32 (i 0).val)).trans hfirst
  unfold outB
  iintro ⟨H1, H2, H3, H4, H5⟩
  by_cases h : first
  · rw [dif_pos (hc.mpr h)]
    sl_exec
    sl_step
    isplitl [H1]; · iexact H1
    isplitl [H2]; · iexact H2
    isplitl [H3]; · iexact H3
    isplitl [H4]; · iexact H4
    iexists _
    isplitr; swap; · iexact H5
    ipureintro
    refine (read_last M5.view f5 z2 _ _ _).trans ?_
    unfold bodyB.sl.v39 bodyB.sl.H5_1
    rw [View.readCov_unit_zero (S := S2000x256) _ z2, load_whole M1.view f1 z2, load_whole M2.view f2 z2, load_whole M3.view f3 z2, load_whole M4.view f4 z2, if_pos h]
  · rw [dif_neg (fun e => h (hc.mp e))]
    sl_exec
    sl_step
    isplitl [H1]; · iexact H1
    isplitl [H2]; · iexact H2
    isplitl [H3]; · iexact H3
    isplitl [H4]; · iexact H4
    iexists _
    isplitr; swap; · iexact H5
    ipureintro
    refine (read_last M5.view f5 z2 _ _ _).trans ?_
    rw [load_whole M1.view f1 z2, load_whole M2.view f2 z2, load_whole M3.view f3 z2, load_whole M4.view f4 z2, load_whole M5.view f5 z2, if_neg h]

theorem bodyD (c : Dev nD) (i : grid3.Coords)
    (M1 : Memref sig .tc .vmem S256x2000 .f32) (h1 : M1.IsWhole) (M2 : Memref sig .tc .vmem S2000x192 .f32) (h2 : M2.IsWhole)
    (M3 : Memref sig .tc .vmem S2000x256 .f32) (h3 : M3.IsWhole) (M4 : Memref sig .tc .vmem S1x256 .f32) (h4 : M4.IsWhole)
    (M5 : Memref sig .tc .vmem S256x256 .f32) (h5 : M5.IsWhole)
    (f1 : Buf (Elt F) (M1.view.loc (c : Thread nD τ))) (f2 : Buf (Elt F) (M2.view.loc (c : Thread nD τ)))
    (f3 : Buf (Elt F) (M3.view.loc (c : Thread nD τ))) (f4 : Buf (Elt F) (M4.view.loc (c : Thread nD τ)))
    (f5 : Buf (Elt F) (M5.view.loc (c : Thread nD τ))) :
    iprop((M1.view.loc (c : Thread nD τ) ↦[M1.view.set]{fullShare} f1) ∗ (M2.view.loc (c : Thread nD τ) ↦[M2.view.set]{fullShare} f2)
        ∗ (M3.view.loc (c : Thread nD τ) ↦[M3.view.set]{fullShare} f3) ∗ (M4.view.loc (c : Thread nD τ) ↦[M4.view.set]{fullShare} f4)
        ∗ (M5.view.loc (c : Thread nD τ) ↦[M5.view.set]{fullShare} f5) : sProp 𝕄)
      ⊢ wp frame (wpE (defs₀ (F := F)) 𝒱₀ (c : Thread nD τ) none) Set.univ (cc3__stage_d i M1 h1 M2 h2 M3 h3 M4 h4 M5 h5) fun _ =>
          iprop((M1.view.loc (c : Thread nD τ) ↦[M1.view.set]{fullShare} f1) ∗ (M2.view.loc (c : Thread nD τ) ↦[M2.view.set]{fullShare} f2)
            ∗ (M3.view.loc (c : Thread nD τ) ↦[M3.view.set]{fullShare} f3) ∗ (M4.view.loc (c : Thread nD τ) ↦[M4.view.set]{fullShare} f4)
            ∗ ∃ f, ⌜M5.view.read (Elt F) f = k3_pay1 (M1.view.read (Elt F) f1) (M2.view.read (Elt F) f2) (M3.view.read (Elt F) f3) (M4.view.read (Elt F) f4)⌝
              ∗ (M5.view.loc (c : Thread nD τ) ↦[M5.view.set]{fullShare} f)) := by
  rw [cc3__stage_d_eq_skeleton]; unfold cc3__stage_d_skel
  iintro ⟨H1, H2, H3, H4, H5⟩
  sl_exec
  sl_step
  isplitl [H1]; · iexact H1
  isplitl [H2]; · iexact H2
  isplitl [H3]; · iexact H3
  isplitl [H4]; · iexact H4
  iexists _
  isplitr; swap; · iexact H5
  ipureintro
  refine (read_last M5.view f5 z2 _ _ _).trans ?_
  rw [load_whole M1.view f1 z2, load_whole M2.view f2 z2, load_whole M3.view f3 z2, load_whole M4.view f4 z2]

end Cert.Proof.Body

end
-- ==== Proof.Region.lean ====
/-  The three TensorCore regions over a valuation of the unscoped buffers: each one's proof data, what each grid point
    leaves, and the region entered from any valuation. -/
module

public import proofs.«01_k».proof.Proof.Body
public import proofs.«01_k».proof.Proof.Gen.KernelIdeal.Launch
public import proofs.«01_k».proof.Proof.Gen.KernelIdeal.Points
public import Idealize.ShloMosaic.Lib.Pipeline.RegionsLoop

@[expose] public section

noncomputable section

namespace Cert.Proof.Region

open Cert.KernelIdeal Cert.KernelIdeal.Gen Cert.Proof.Sc Cert.Proof.Body

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation)

variable {F : FTy → Type} [FloatOps F]

local notation "𝕄" => MT nD τ sig (HIx 1) (Elt F) ℕ UU ℕ

/-- A valuation of the unscoped buffers, per device. -/
abbrev Val (F : FTy → Type) : Type := (c : Dev nD) → (b : Ref sig .tc) → Buf (Elt F) ((c : Thread nD τ).loc b)

/-- Proof data for a pipeline a region does not run: anything. -/
def someDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- What a core may have recorded between the calls: nothing above `b`. -/
abbrev recW (b : ℕ) (c : Dev nD) : Set (SemLoc sig × HIx 1) := {p | (K (F := F)).lev (T c, p.1) p.2 ≤ b}

abbrev adm : (p : Fin 3) → (pcfgs (F := F) p).Adm := fun p => (cfgs p).toPCfg_adm

/-- What the thread state between the calls says of the core's dues. -/
abbrev dues (b : ℕ) (c : Dev nD) : sProp 𝕄 := iprop(∃ W, ⌜(K (F := F)).WBelow (T c) W b⌝ ∗ owes (T c) (0 : CellTallies nD τ sig (HIx 1)) W)

variable (b : ℕ) (V : Val F)

/-! ## Region 1 -/

def blkA0 (c : Dev nD) (t : Fin cfg1.N) : Vec F S256x2000 .f32 := ((cfg1.win 0).blk t).view.read (Elt F) (V c main_v5)
def blkA1 (c : Dev nD) (t : Fin cfg1.N) : Vec F S2x256x128 .f32 := ((cfg1.win 1).blk t).view.read (Elt F) (V c main_v6)
def blkA2 (c : Dev nD) (t : Fin cfg1.N) : Vec F S128x64 .f32 := ((cfg1.win 2).blk t).view.read (Elt F) (V c main_arg2)

/-- The accumulator of stage A after the first `n` grid points. -/
def accA (c : Dev nD) : ℕ → Vec F S2000x192 .f32
  | 0 => k1_pay1 (F := F)
  | n + 1 => if h : n < cfg1.N then outA (n = 0) (blkA0 V c ⟨n, h⟩) (blkA1 V c ⟨n, h⟩) (blkA2 V c ⟨n, h⟩) (accA c n) else accA c n

theorem accA_succ (c : Dev nD) (t : Fin cfg1.N) :
    accA V c (t.val + 1) = outA (t.val = 0) (blkA0 V c t) (blkA1 V c t) (blkA2 V c t) (accA V c t.val) := by
  rw [accA, dif_pos t.isLt]

def datA (c : Dev nD) : Dat τ (Elt F) (HIx 1) ℕ UU ℕ cfg1 c where
  A w := V c (Pipeline.arrRef spec1 w)
  after w t := match w with
    | ⟨0, _⟩ => blkA0 V c t
    | ⟨1, _⟩ => blkA1 V c t
    | ⟨2, _⟩ => blkA2 V c t
    | ⟨3, _⟩ => accA V c (t.val + 1)
  Φ _ := Pipeline.scopedRest (Ix := HIx 1) (Name := ℕ) (U := UU) (Lvl := ℕ) (Val := Elt F) spec1 c
  q _ := fullShare
  owed _ := 0
  recorded _ := recW (F := F) b c

theorem beforeA0 (c : Dev nD) (t : Fin cfg1.N) (d) : (datA b V c).before 0 t d = blkA0 V c t := by
  rw [Dat.before_in_eq_fetched _ 0 rfl (fun _ => rfl) (fun _ _ _ => rfl) (fun _ => rfl)]
  unfold Dat.fetched Dat.blockOf; dsimp only [datA]; rfl
theorem beforeA1 (c : Dev nD) (t : Fin cfg1.N) (d) : (datA b V c).before 1 t d = blkA1 V c t := by
  rw [Dat.before_in_eq_fetched _ 1 rfl (fun _ => rfl) (fun _ _ _ => rfl) (fun _ => rfl)]
  unfold Dat.fetched Dat.blockOf; dsimp only [datA]; rfl
theorem beforeA2 (c : Dev nD) (t : Fin cfg1.N) (d) : (datA b V c).before 2 t d = blkA2 V c t := by
  rw [Dat.before_in_eq_fetched _ 2 rfl (fun _ => rfl) (fun _ _ _ => rfl) (fun _ => rfl)]
  unfold Dat.fetched Dat.blockOf; dsimp only [datA]; rfl
theorem beforeA3 (c : Dev nD) (t : Fin cfg1.N) (d) (ht : t.val ≠ 0) : (datA b V c).before 3 t d = accA V c t.val := by
  have hN : cfg1.N = 8 := N_1
  have hlt := t.isLt
  rw [Dat.before_out_kept _ 3 rfl t ht (by
    refine Bool.eq_false_iff.mpr fun h => ?_
    have := (flush1_3 _).mp h
    dsimp only at this; omega) (fun _ => rfl) (fun _ _ => rfl)]
  dsimp only [datA]
  rw [Nat.sub_add_cancel (Nat.pos_of_ne_zero ht)]

theorem coords1 : ∀ t : Fin cfg1.N, (grid1.coords t 0).val = t.val :=
  (by decide : ∀ t : Fin grid1.N, (grid1.coords t 0).val = t.val)

theorem firstA (t : Fin cfg1.N) : BitVec.ofNat 32 (grid1.coords t 0).val = 0#32 ↔ t.val = 0 := by
  have hN : cfg1.N = 8 := N_1
  have hlt := t.isLt
  rw [coords1 t]
  constructor
  · intro h
    have := congrArg BitVec.toNat h
    rw [BitVec.toNat_ofNat, BitVec.toNat_ofNat, Nat.mod_eq_of_lt (by omega)] at this
    exact this
  · intro h; rw [h]

set_option maxHeartbeats 1000000 in
theorem obligationA (c : Dev nD) : BodyObligation (datA b V c) (defs₀ (F := F)) 𝒱₀ none Set.univ := fun t => by
  rw [bigSep_W1, bigSep_W1]
  unfold owns
  rw [show (datA b V c).Φ t.succ = (datA b V c).Φ t.castSucc from rfl,
    show (datA b V c).owesAt none t.succ = (datA b V c).owesAt none t.castSucc from rfl]
  iintro ⟨HΦ, Howes, ⟨%d0, %f0, %hf0, H0⟩, ⟨%d1, %f1, %hf1, H1⟩, ⟨%d2, %f2, %hf2, H2⟩, ⟨%d3, %f3, %hf3, H3⟩⟩
  rw [beforeA0] at hf0
  rw [beforeA1] at hf1
  rw [beforeA2] at hf2
  iapply (wp_wand_r frame _ _)
  isplitl [H0 H1 H2 H3]
  · iapply (bodyA (F := F) c (grid1.coords t) (t.val = 0) (firstA t) _ (hstage1_0 ((cfg1.slots t 0).cast nbuf1_0)) _ (hstage1_1 ((cfg1.slots t 1).cast nbuf1_1))
      _ (hstage1_2 ((cfg1.slots t 2).cast nbuf1_2)) _ (hstage1_3 ((cfg1.slots t 3).cast nbuf1_3)) f0 f1 f2 f3)
    isplitl [H0]; · iexact H0
    isplitl [H1]; · iexact H1
    isplitl [H2]; · iexact H2
    iexact H3
  iintro %_ ⟨H0, H1, H2, ⟨%f, %hf, H3⟩⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  iexists f; isplitr; swap; (· iexact H3); ipureintro
  refine hf.trans ?_
  refine Eq.trans ?_ (accA_succ V c t).symm
  refine (congr (congr (congr (congrArg (outA (t.val = 0)) hf0) hf1) hf2) rfl).trans ?_
  by_cases ht : t.val = 0
  · unfold outA; rw [if_pos ht, if_pos ht]
  · rw [beforeA3 b V c t d3 ht] at hf3
    exact congrArg (outA (t.val = 0) (blkA0 V c t) (blkA1 V c t) (blkA2 V c t)) hf3

def pdatsA : (p : Fin 3) → (c : Dev nD) → Dat τ (Elt F) (HIx 1) ℕ UU ℕ (Pipeline.pin (pcfgs (F := F)) adm p) c
  | ⟨0, _⟩ => fun c => datA b V c
  | ⟨1, _⟩ => fun c => someDat c
  | ⟨2, _⟩ => fun c => someDat c

set_option backward.isDefEq.respectTransparency.types false in
def regA (Vp : Val F) (hVp_out : ∀ c, Vp c main_v11 = (datA b V c).arrAt 3 cfg1.N)
    (hVp_ne : ∀ c (r : Ref sig .tc), r ≠ main_v11 → Vp c r = V c r) :
    Pipeline.RegionSeg (pcfgs (F := F)) adm (pdatsA b V) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (obligationA b V c).loose
  hwaits := Pipeline.hwaits_of_owed_zero _ _ _ _ (K (F := F)).L (K (F := F)).lev 0 fun _ _ => rfl
  pre c := iprop(unscopedBufs c (V c) ∗ dues (F := F) b c)
  post c := iprop(unscopedBufs c (Vp c) ∗ dues (F := F) b c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdatsA b V) (launch1).win (launch1).arr_whole c
      ((pdatsA b V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdatsA b V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdatsA b V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdatsA b V) ((pdatsA b V 0 c).share_full fun _ => rfl) (V c) (Vp c) ((pdatsA b V 0 c).arrAt · cfg1.N)
      (fun w => by
        fin_cases w
        · exact ((pdatsA b V 0 c).arrAt_in 0 rfl _).trans (hVp_ne c main_v5 (by decide)).symm
        · exact ((pdatsA b V 0 c).arrAt_in 1 rfl _).trans (hVp_ne c main_v6 (by decide)).symm
        · exact ((pdatsA b V 0 c).arrAt_in 2 rfl _).trans (hVp_ne c main_arg2 (by decide)).symm
        · exact (hVp_out c).symm)
      (fun r hr => hVp_ne c r fun h => hr (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · subst h; exact Nat.zero_le _
    iexact HO

/-! ## Region 2 -/

def blkB0 (c : Dev nD) (t : Fin cfg2.N) : Vec F S256x2000 .f32 := ((cfg2.win 0).blk t).view.read (Elt F) (V c main_v5)
def blkB1 (c : Dev nD) (t : Fin cfg2.N) : Vec F S2000x192 .f32 := ((cfg2.win 1).blk t).view.read (Elt F) (V c main_v11)
def blkB2 (c : Dev nD) (t : Fin cfg2.N) : Vec F S64x128 .f32 := ((cfg2.win 2).blk t).view.read (Elt F) (V c main_arg4)
def blkB3 (c : Dev nD) (t : Fin cfg2.N) : Vec F S1x128 .f32 := ((cfg2.win 3).blk t).view.read (Elt F) (V c main_v8)

/-- The accumulator of this stage after the first `n` grid points. -/
def accB (c : Dev nD) : ℕ → Vec F S2000x256 .f32
  | 0 => k2_pay2 (F := F)
  | n + 1 => if h : n < cfg2.N then outB (n = 0) (blkB0 V c ⟨n, h⟩) (blkB1 V c ⟨n, h⟩) (blkB2 V c ⟨n, h⟩) (blkB3 V c ⟨n, h⟩) (accB c n) else accB c n

theorem accB_succ (c : Dev nD) (t : Fin cfg2.N) :
    accB V c (t.val + 1) = outB (t.val = 0) (blkB0 V c t) (blkB1 V c t) (blkB2 V c t) (blkB3 V c t) (accB V c t.val) := by
  rw [accB, dif_pos t.isLt]

def datB (c : Dev nD) : Dat τ (Elt F) (HIx 1) ℕ UU ℕ cfg2 c where
  A w := V c (Pipeline.arrRef spec2 w)
  after w t := match w with
    | ⟨0, _⟩ => blkB0 V c t
    | ⟨1, _⟩ => blkB1 V c t
    | ⟨2, _⟩ => blkB2 V c t
    | ⟨3, _⟩ => blkB3 V c t
    | ⟨4, _⟩ => accB V c (t.val + 1)
  Φ _ := Pipeline.scopedRest (Ix := HIx 1) (Name := ℕ) (U := UU) (Lvl := ℕ) (Val := Elt F) spec2 c
  q _ := fullShare
  owed _ := 0
  recorded _ := recW (F := F) b c

theorem beforeB0 (c : Dev nD) (t : Fin cfg2.N) (d) : (datB b V c).before 0 t d = blkB0 V c t := by
  rw [Dat.before_in_eq_fetched _ 0 rfl (fun _ => rfl) (fun _ _ _ => rfl) (fun _ => rfl)]
  unfold Dat.fetched Dat.blockOf; dsimp only [datB]; rfl
theorem beforeB1 (c : Dev nD) (t : Fin cfg2.N) (d) : (datB b V c).before 1 t d = blkB1 V c t := by
  rw [Dat.before_in_eq_fetched _ 1 rfl (fun _ => rfl) (fun _ _ _ => rfl) (fun _ => rfl)]
  unfold Dat.fetched Dat.blockOf; dsimp only [datB]; rfl
theorem beforeB2 (c : Dev nD) (t : Fin cfg2.N) (d) : (datB b V c).before 2 t d = blkB2 V c t := by
  rw [Dat.before_in_eq_fetched _ 2 rfl (fun _ => rfl) (fun _ _ _ => rfl) (fun _ => rfl)]
  unfold Dat.fetched Dat.blockOf; dsimp only [datB]; rfl
theorem beforeB3 (c : Dev nD) (t : Fin cfg2.N) (d) : (datB b V c).before 3 t d = blkB3 V c t := by
  rw [Dat.before_in_eq_fetched _ 3 rfl (fun _ => rfl) (fun _ _ _ => rfl) (fun _ => rfl)]
  unfold Dat.fetched Dat.blockOf; dsimp only [datB]; rfl
theorem beforeB4 (c : Dev nD) (t : Fin cfg2.N) (d) (ht : t.val ≠ 0) : (datB b V c).before 4 t d = accB V c t.val := by
  have hN : cfg2.N = 8 := N_2
  have hlt := t.isLt
  rw [Dat.before_out_kept _ 4 rfl t ht (by
    refine Bool.eq_false_iff.mpr fun h => ?_
    have := (flush2_4 _).mp h
    dsimp only at this; omega) (fun _ => rfl) (fun _ _ => rfl)]
  dsimp only [datB]
  rw [Nat.sub_add_cancel (Nat.pos_of_ne_zero ht)]

theorem coords2 : ∀ t : Fin cfg2.N, (grid2.coords t 0).val = t.val :=
  (by decide : ∀ t : Fin grid2.N, (grid2.coords t 0).val = t.val)

theorem firstB (t : Fin cfg2.N) : BitVec.ofNat 32 (grid2.coords t 0).val = 0#32 ↔ t.val = 0 := by
  have hN : cfg2.N = 8 := N_2
  have hlt := t.isLt
  rw [coords2 t]
  constructor
  · intro h
    have := congrArg BitVec.toNat h
    rw [BitVec.toNat_ofNat, BitVec.toNat_ofNat, Nat.mod_eq_of_lt (by omega)] at this
    exact this
  · intro h; rw [h]

set_option maxHeartbeats 1000000 in
theorem obligationB (c : Dev nD) : BodyObligation (datB b V c) (defs₀ (F := F)) 𝒱₀ none Set.univ := fun t => by
  rw [bigSep_W2, bigSep_W2]
  unfold owns
  rw [show (datB b V c).Φ t.succ = (datB b V c).Φ t.castSucc from rfl,
    show (datB b V c).owesAt none t.succ = (datB b V c).owesAt none t.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩⟩
  rw [beforeB0] at hf0
  rw [beforeB1] at hf1
  rw [beforeB2] at hf2
  rw [beforeB3] at hf3
  iapply (wp_wand_r frame _ _)
  isplitl [H0 H1 H2 H3 H4]
  · iapply (bodyB (F := F) c (grid2.coords t) (t.val = 0) (firstB t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (hstage2_4 ((cfg2.slots t 4).cast nbuf2_4)) f0 f1 f2 f3 f4)
    isplitl [H0]; · iexact H0
    isplitl [H1]; · iexact H1
    isplitl [H2]; · iexact H2
    isplitl [H3]; · iexact H3
    iexact H4
  iintro %_ ⟨H0, H1, H2, H3, ⟨%f, %hf, H4⟩⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  iexists f; isplitr; swap; (· iexact H4); ipureintro
  refine hf.trans ?_
  refine Eq.trans ?_ (accB_succ V c t).symm
  refine (congr (congr (congr (congr (congrArg (outB (t.val = 0)) hf0) hf1) hf2) hf3) rfl).trans ?_
  by_cases ht : t.val = 0
  · unfold outB; rw [if_pos ht, if_pos ht]
  · rw [beforeB4 b V c t d4 ht] at hf4
    exact congrArg (outB (t.val = 0) (blkB0 V c t) (blkB1 V c t) (blkB2 V c t) (blkB3 V c t)) hf4

def pdatsB : (p : Fin 3) → (c : Dev nD) → Dat τ (Elt F) (HIx 1) ℕ UU ℕ (Pipeline.pin (pcfgs (F := F)) adm p) c
  | ⟨0, _⟩ => fun c => someDat c
  | ⟨1, _⟩ => fun c => datB b V c
  | ⟨2, _⟩ => fun c => someDat c

set_option backward.isDefEq.respectTransparency.types false in
def regB (Vp : Val F) (hVp_out : ∀ c, Vp c main_v12 = (datB b V c).arrAt 4 cfg2.N)
    (hVp_ne : ∀ c (r : Ref sig .tc), r ≠ main_v12 → Vp c r = V c r) :
    Pipeline.RegionSeg (pcfgs (F := F)) adm (pdatsB b V) none defs₀ 𝒱₀ (K (F := F)).L (K (F := F)).lev 1 where
  win := (launch2).win.to₀
  block_pos := (launch2).block_pos
  stage_whole := (launch2).stage_whole
  K := PEmpty
  osem k := k.elim
  ho := Pipeline.OwnSemFacts.none _
  hbody c := (obligationB b V c).loose
  hwaits := Pipeline.hwaits_of_owed_zero _ _ _ _ (K (F := F)).L (K (F := F)).lev 1 fun _ _ => rfl
  pre c := iprop(unscopedBufs c (V c) ∗ dues (F := F) b c)
  post c := iprop(unscopedBufs c (Vp c) ∗ dues (F := F) b c)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdatsB b V) (launch2).win (launch2).arr_whole c
      ((pdatsB b V 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdatsB b V 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdatsB b V 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) (launch2).win (launch2).arr_whole c
      (pdatsB b V) ((pdatsB b V 1 c).share_full fun _ => rfl) (V c) (Vp c) ((pdatsB b V 1 c).arrAt · cfg2.N)
      (fun w => by
        fin_cases w
        · exact ((pdatsB b V 1 c).arrAt_in 0 rfl _).trans (hVp_ne c main_v5 (by decide)).symm
        · exact ((pdatsB b V 1 c).arrAt_in 1 rfl _).trans (hVp_ne c main_v11 (by decide)).symm
        · exact ((pdatsB b V 1 c).arrAt_in 2 rfl _).trans (hVp_ne c main_arg4 (by decide)).symm
        · exact ((pdatsB b V 1 c).arrAt_in 3 rfl _).trans (hVp_ne c main_v8 (by decide)).symm
        · exact (hVp_out c).symm)
      (fun r hr => hVp_ne c r fun h => hr (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · subst h; exact Nat.zero_le _
    iexact HO

/-! ## Region 3 -/

def blkD0 (c : Dev nD) (t : Fin cfg3.N) : Vec F S256x2000 .f32 := ((cfg3.win 0).blk t).view.read (Elt F) (V c main_v5)
def blkD1 (c : Dev nD) (t : Fin cfg3.N) : Vec F S2000x192 .f32 := ((cfg3.win 1).blk t).view.read (Elt F) (V c main_v11)
def blkD2 (c : Dev nD) (t : Fin cfg3.N) : Vec F S2000x256 .f32 := ((cfg3.win 2).blk t).view.read (Elt F) (V c main_v12)
def blkD3 (c : Dev nD) (t : Fin cfg3.N) : Vec F S1x256 .f32 := ((cfg3.win 3).blk t).view.read (Elt F) (V c main_v10)

def datD (c : Dev nD) : Dat τ (Elt F) (HIx 1) ℕ UU ℕ cfg3 c where
  A w := V c (Pipeline.arrRef spec3 w)
  after w t := match w with
    | ⟨0, _⟩ => blkD0 V c t
    | ⟨1, _⟩ => blkD1 V c t
    | ⟨2, _⟩ => blkD2 V c t
    | ⟨3, _⟩ => blkD3 V c t
    | ⟨4, _⟩ => k3_pay1 (blkD0 V c t) (blkD1 V c t) (blkD2 V c t) (blkD3 V c t)
  Φ _ := Pipeline.scopedRest (Ix := HIx 1) (Name := ℕ) (U := UU) (Lvl := ℕ) (Val := Elt F) spec3 c
  q _ := fullShare
  owed _ := 0
  recorded _ := recW (F := F) b c

theorem beforeD0 (c : Dev nD) (t : Fin cfg3.N) (d) : (datD b V c).before 0 t d = blkD0 V c t := by
  rw [Dat.before_in_eq_fetched _ 0 rfl (fun _ => rfl) (fun _ _ _ => rfl) (fun _ => rfl)]
  unfold Dat.fetched Dat.blockOf; dsimp only [datD]; rfl
theorem beforeD1 (c : Dev nD) (t : Fin cfg3.N) (d) : (datD b V c).before 1 t d = blkD1 V c t := by
  rw [Dat.before_in_eq_fetched _ 1 rfl (fun _ => rfl) (fun _ _ _ => rfl) (fun _ => rfl)]
  unfold Dat.fetched Dat.blockOf; dsimp only [datD]; rfl
theorem beforeD2 (c : Dev nD) (t : Fin cfg3.N) (d) : (datD b V c).before 2 t d = blkD2 V c t := by
  rw [Dat.before_in_eq_fetched _ 2 rfl (fun _ => rfl) (fun _ _ _ => rfl) (fun _ => rfl)]
  unfold Dat.fetched Dat.blockOf; dsimp only [datD]; rfl
theorem beforeD3 (c : Dev nD) (t : Fin cfg3.N) (d) : (datD b V c).before 3 t d = blkD3 V c t := by
  rw [Dat.before_in_eq_fetched _ 3 rfl (fun _ => rfl) (fun _ _ _ => rfl) (fun _ => rfl)]
  unfold Dat.fetched Dat.blockOf; dsimp only [datD]; rfl
set_option maxHeartbeats 1000000 in
theorem obligationD (c : Dev nD) : BodyObligation (datD b V c) (defs₀ (F := F)) 𝒱₀ none Set.univ := fun t => by
  rw [bigSep_W3, bigSep_W3]
  unfold owns
  rw [show (datD b V c).Φ t.succ = (datD b V c).Φ t.castSucc from rfl,
    show (datD b V c).owesAt none t.succ = (datD b V c).owesAt none t.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩⟩
  rw [beforeD0] at hf0
  rw [beforeD1] at hf1
  rw [beforeD2] at hf2
  rw [beforeD3] at hf3
  iapply (wp_wand_r frame _ _)
  isplitl [H0 H1 H2 H3 H4]
  · iapply (bodyD (F := F) c (grid3.coords t)  _ (hstage3_0 ((cfg3.slots t 0).cast nbuf3_0)) _ (hstage3_1 ((cfg3.slots t 1).cast nbuf3_1)) _ (hstage3_2 ((cfg3.slots t 2).cast nbuf3_2)) _ (hstage3_3 ((cfg3.slots t 3).cast nbuf3_3)) _ (hstage3_4 ((cfg3.slots t 4).cast nbuf3_4)) f0 f1 f2 f3 f4)
    isplitl [H0]; · iexact H0
    isplitl [H1]; · iexact H1
    isplitl [H2]; · iexact H2
    isplitl [H3]; · iexact H3
    iexact H4
  iintro %_ ⟨H0, H1, H2, H3, ⟨%f, %hf, H4⟩⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  iexists f; isplitr; swap; (· iexact H4); ipureintro
  refine hf.trans ?_
  exact congr (congr (congr (congrArg (k3_pay1) hf0) hf1) hf2) hf3

def pdatsD : (p : Fin 3) → (c : Dev nD) → Dat τ (Elt F) (HIx 1) ℕ UU ℕ (Pipeline.pin (pcfgs (F := F)) adm p) c
  | ⟨0, _⟩ => fun c => someDat c
  | ⟨1, _⟩ => fun c => someDat c
  | ⟨2, _⟩ => fun c => datD b V c

set_option backward.isDefEq.respectTransparency.types false in
def regD (Vp : Val F) (hVp_out : ∀ c, Vp c main_v13 = (datD b V c).arrAt 4 cfg3.N)
    (hVp_ne : ∀ c (r : Ref sig .tc), r ≠ main_v13 → Vp c r = V c r) :
    Pipeline.RegionSeg (pcfgs (F := F)) adm (pdatsD b V) none defs₀ 𝒱₀ (K (F := F)).L (K (F := F)).lev 2 where
  win := (launch3).win.to₀
  block_pos := (launch3).block_pos
  stage_whole := (launch3).stage_whole
  K := PEmpty
  osem k := k.elim
  ho := Pipeline.OwnSemFacts.none _
  hbody c := (obligationD b V c).loose
  hwaits := Pipeline.hwaits_of_owed_zero _ _ _ _ (K (F := F)).L (K (F := F)).lev 2 fun _ _ => rfl
  pre c := iprop(unscopedBufs c (V c) ∗ dues (F := F) b c)
  post c := iprop(unscopedBufs c (Vp c) ∗ dues (F := F) b c)
  X _ := BI.emp
  Y _ := BI.emp
  Z c := Pipeline.unscopedRest (Ix := HIx 1) (Name := ℕ) (U := UU) (Lvl := ℕ) spec3 c (V c)
  hentry c := by
    rw [Pipeline.ownSems0_none]
    have hsplit := Pipeline.arrays_of_unscopedBufs (p := 2) (pcfgs (F := F)) adm (pdatsD b V) (launch3).win (launch3).arr_whole c
      ((pdatsD b V 2 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdatsD b V 2 c).Φ 0 = Pipeline.scopedRest (Ix := HIx 1) (Name := ℕ) (U := UU) (Lvl := ℕ) (Val := Elt F) spec3 c from rfl]
    iintro ⟨-, -, Hr⟩; iexact Hr
  hout c := by
    rw [Pipeline.ownSems0_none, show (pdatsD b V 2 c).Φ (Fin.last _) = Pipeline.scopedRest (Ix := HIx 1) (Name := ℕ) (U := UU) (Lvl := ℕ) (Val := Elt F) spec3 c from rfl]
    iintro Hr
    isplitr; · iempintro
    isplitr; · iempintro
    iexact Hr
  hexit c := by
    have hjoin := Pipeline.unscopedBufs_of_arrays (p := 2) (pcfgs (F := F)) adm (Ix := HIx 1) (Name := ℕ) (U := UU) (Lvl := ℕ) (launch3).win (launch3).arr_whole c
      (pdatsD b V) ((pdatsD b V 2 c).share_full fun _ => rfl) (V c) (Vp c) ((pdatsD b V 2 c).arrAt · cfg3.N)
      (fun w => by
        fin_cases w
        · exact ((pdatsD b V 2 c).arrAt_in 0 rfl _).trans (hVp_ne c main_v5 (by decide)).symm
        · exact ((pdatsD b V 2 c).arrAt_in 1 rfl _).trans (hVp_ne c main_v11 (by decide)).symm
        · exact ((pdatsD b V 2 c).arrAt_in 2 rfl _).trans (hVp_ne c main_v12 (by decide)).symm
        · exact ((pdatsD b V 2 c).arrAt_in 3 rfl _).trans (hVp_ne c main_v10 (by decide)).symm
        · exact (hVp_out c).symm)
      (fun r hr => hVp_ne c r fun h => hr (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · subst h; exact Nat.zero_le _
    iexact HO

end Cert.Proof.Region

end
-- ==== Proof.Final.lean ====
/-  What the three regions leave in their result arrays. -/
module

public import proofs.«01_k».proof.Proof.Region

@[expose] public section

noncomputable section

namespace Cert.Proof.Region

open Cert.KernelIdeal Cert.KernelIdeal.Gen Cert.Proof.Sc Cert.Proof.Body

open Idealize.ShloMosaic Idealize.ShloMosaic.TcCoe
open Idealize.ShloMosaic.SparseCore.Cfg (HIx)
open Idealize.ShloMosaic.Pipeline (Dat Cfg Window)

variable {F : FTy → Type} [FloatOps F] (b : ℕ) (V : Val F)

theorem last1 (t : Fin cfg1.N) (hf : (cfg1.win 3).flush t = true) : t = t1_7 := by
  have hN : cfg1.N = 8 := N_1
  have := (flush1_3 t).mp hf
  have := t.isLt
  exact Fin.ext (by show t.val = 7; omega)

theorem last2 (t : Fin cfg2.N) (hf : (cfg2.win 4).flush t = true) : t = t2_7 := by
  have hN : cfg2.N = 8 := N_2
  have := (flush2_4 t).mp hf
  have := t.isLt
  exact Fin.ext (by show t.val = 7; omega)

theorem finalA (c : Dev nD) : (datA b V c).arrAt 3 cfg1.N = accA V c 8 :=
  (datA b V c).arrAt_eq_of_cover 3 (accA V c 8) (fun t hf => by
    rw [last1 t hf]
    show (cfg1.win 3).cut (grid1.coords t1_7) ((datA b V c).after 3 t1_7) = _
    have hz : (fun a => win1_3.index t1_7 a * main_v11.ty.shape.size a) = fun _ => 0 := funext fun a => by fin_cases a <;> decide
    exact (Memref.read_access_unit_zero (Elt F) main_v11 hz (fun a => by rw [congrFun hz a]; simp) (accA V c 8)).symm) fun i =>
    ⟨t1_7, (flush1_3 t1_7).mpr rfl, by
      show i ∈ ((View.whole main_v11).slice (win1_3.rect t1_7)).set
      rw [View.set_slice_whole, Rect.mem_set_unit]
      intro a
      have h0 : (i 0 : Nat) < 2000 := (i 0).isLt
      have h1 : (i 1 : Nat) < 192 := (i 1).isLt
      match a with
      | ⟨0, _⟩ => show win1_3.index t1_7 0 * win1_3.size 0 ≤ (i 0 : Nat) ∧ (i 0 : Nat) < win1_3.index t1_7 0 * win1_3.size 0 + win1_3.xsize (grid1.coords t1_7) 0
                  rw [show win1_3.index t1_7 0 * win1_3.size 0 = 0 from by decide +kernel, show win1_3.xsize (grid1.coords t1_7) 0 = 2000 from by decide +kernel]; omega
      | ⟨1, _⟩ => show win1_3.index t1_7 1 * win1_3.size 1 ≤ (i 1 : Nat) ∧ (i 1 : Nat) < win1_3.index t1_7 1 * win1_3.size 1 + win1_3.xsize (grid1.coords t1_7) 1
                  rw [show win1_3.index t1_7 1 * win1_3.size 1 = 0 from by decide +kernel, show win1_3.xsize (grid1.coords t1_7) 1 = 192 from by decide +kernel]; omega⟩

theorem finalB (c : Dev nD) : (datB b V c).arrAt 4 cfg2.N = accB V c 8 :=
  (datB b V c).arrAt_eq_of_cover 4 (accB V c 8) (fun t hf => by
    rw [last2 t hf]
    show (cfg2.win 4).cut (grid2.coords t2_7) ((datB b V c).after 4 t2_7) = _
    have hz : (fun a => win2_4.index t2_7 a * main_v12.ty.shape.size a) = fun _ => 0 := funext fun a => by fin_cases a <;> decide
    exact (Memref.read_access_unit_zero (Elt F) main_v12 hz (fun a => by rw [congrFun hz a]; simp) (accB V c 8)).symm) fun i =>
    ⟨t2_7, (flush2_4 t2_7).mpr rfl, by
      show i ∈ ((View.whole main_v12).slice (win2_4.rect t2_7)).set
      rw [View.set_slice_whole, Rect.mem_set_unit]
      intro a
      have h0 : (i 0 : Nat) < 2000 := (i 0).isLt
      have h1 : (i 1 : Nat) < 256 := (i 1).isLt
      match a with
      | ⟨0, _⟩ => show win2_4.index t2_7 0 * win2_4.size 0 ≤ (i 0 : Nat) ∧ (i 0 : Nat) < win2_4.index t2_7 0 * win2_4.size 0 + win2_4.xsize (grid2.coords t2_7) 0
                  rw [show win2_4.index t2_7 0 * win2_4.size 0 = 0 from by decide +kernel, show win2_4.xsize (grid2.coords t2_7) 0 = 2000 from by decide +kernel]; omega
      | ⟨1, _⟩ => show win2_4.index t2_7 1 * win2_4.size 1 ≤ (i 1 : Nat) ∧ (i 1 : Nat) < win2_4.index t2_7 1 * win2_4.size 1 + win2_4.xsize (grid2.coords t2_7) 1
                  rw [show win2_4.index t2_7 1 * win2_4.size 1 = 0 from by decide +kernel, show win2_4.xsize (grid2.coords t2_7) 1 = 256 from by decide +kernel]; omega⟩

/-- Row `r` of the last region's result: what the grid point of its block of 256 rows leaves. -/
def outD (c : Dev nD) : Vec F S2048x256 .f32 := fun j =>
  let t : Fin cfg3.N := ⟨(j 0).val / 256, by have hN : cfg3.N = 8 := N_3; have : (j 0).val < 2048 := (j 0).isLt; omega⟩
  k3_pay1 (blkD0 V c t) (blkD1 V c t) (blkD2 V c t) (blkD3 V c t) (fun | 0 => ⟨(j 0).val % 256, Nat.mod_lt _ (by decide)⟩ | 1 => ⟨(j 1).val, (j 1).isLt⟩)

theorem index3_4 : ∀ t : Fin cfg3.N, win3_4.index t 0 = t.val ∧ win3_4.index t 1 = 0 := by
  intro t
  have h : ∀ t : Fin grid3.N, win3_4.index t 0 = t.val ∧ win3_4.index t 1 = 0 := by decide
  exact h t

theorem coverD (i : S2048x256.Idx) (t : Fin cfg3.N) (ht : t.val = (i 0).val / 256) : i ∈ ((cfg3.win 4).blk t).view.set := by
  have h0 : (i 0 : Nat) < 2048 := (i 0).isLt
  have h1 : (i 1 : Nat) < 256 := (i 1).isLt
  have hi := index3_4 t
  have key : i ∈ ((View.whole main_v13).slice (win3_4.rect t)).set := by
    rw [View.set_slice_whole, Rect.mem_set_unit]
    intro a
    match a with
    | ⟨0, _⟩ => show win3_4.index _ 0 * 256 ≤ (i 0 : Nat) ∧ (i 0 : Nat) < win3_4.index _ 0 * 256 + 256
                rw [hi.1]; omega
    | ⟨1, _⟩ => show win3_4.index _ 1 * 256 ≤ (i 1 : Nat) ∧ (i 1 : Nat) < win3_4.index _ 1 * 256 + 256
                rw [hi.2]; omega
  exact key

theorem finalD (c : Dev nD) : (datD b V c).arrAt 4 cfg3.N = outD V c :=
  (datD b V c).arrAt_eq_of_cover 4 (outD V c) (fun t hf => by
    have hN : cfg3.N = 8 := N_3
    have hi := index3_4 t
    have hlt := t.isLt
    funext y
    rw [View.read_apply]
    have e0 : ((((cfg3.win 4).blk t).view.emb y) 0).val = t.val * 256 + (y 0).val := by
      have := Window.rect_emb_val win3_4 t y 0
      rw [hi.1] at this
      exact this
    have e1 : ((((cfg3.win 4).blk t).view.emb y) 1).val = (y 1).val := by
      have := Window.rect_emb_val win3_4 t y 1
      rw [hi.2] at this
      refine Eq.trans this ?_
      rw [Nat.zero_mul, Nat.zero_add]
    have hy0 : (y 0).val < 256 := (y 0).isLt
    have hy1 : (y 1).val < 256 := (y 1).isLt
    have key : ∀ (j : S2048x256.Idx), (j 0).val = t.val * 256 + (y 0).val → (j 1).val = (y 1).val →
        outD V c j = k3_pay1 (blkD0 V c t) (blkD1 V c t) (blkD2 V c t) (blkD3 V c t) (fun | 0 => ⟨(y 0).val, hy0⟩ | 1 => ⟨(y 1).val, hy1⟩) := by
      intro j h0 h1
      unfold outD
      have ht : (⟨(j 0).val / 256, by have : (j 0).val < 2048 := (j 0).isLt; omega⟩ : Fin cfg3.N) = t := Fin.ext (by show (j 0).val / 256 = t.val; omega)
      dsimp only
      rw [ht]
      refine congrArg _ (funext fun a => ?_)
      match a with
      | 0 => exact Fin.ext (by show (j 0).val % 256 = (y 0).val; omega)
      | 1 => exact Fin.ext h1
    refine Eq.trans ?_ (key _ e0 e1).symm
    show k3_pay1 (blkD0 V c t) (blkD1 V c t) (blkD2 V c t) (blkD3 V c t) _ = _
    refine congrArg _ (funext fun a => ?_)
    match a with
    | 0 => exact Fin.ext rfl
    | 1 => exact Fin.ext rfl) fun i =>
    ⟨⟨(i 0).val / 256, by have hN : cfg3.N = 8 := N_3; have : (i 0).val < 2048 := (i 0).isLt; omega⟩, flush3_4 _, coverD i _ rfl⟩

end Cert.Proof.Region

end
-- ==== Proof.Run.lean ====
/-  @main as a whole: the host's operations, the SparseCore call and the three regions in order over one valuation of the
    unscoped buffers, and the program's run with the result array at what they leave. -/
module

public import proofs.«01_k».proof.Proof.Obl
public import proofs.«01_k».proof.Proof.Final
public import Idealize.ShloMosaic.Lib.Pipeline.Frame

@[expose] public section

noncomputable section

namespace Cert.Proof.Run

open Cert.KernelIdeal Cert.KernelIdeal.Gen Cert.Proof.Sc Cert.Proof.Region

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (ucRefs unscopedBufs_held)
open Idealize.ShloMosaic.StableHlo (held after)

variable {F : FTy → Type} [FloatOps F]

local notation "𝕄" => MT nD τ sig (HIx 1) (Elt F) ℕ UU ℕ

/-! ## The host's lines and the valuations between them -/

/-- The host's operations before the SparseCore call. -/
def ops1 : List (HloOp τ sig (Elt F)) :=
  [StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
   StableHlo.reshape main_v0 main_v1 (rfl : (.i32 : EltTy) = .i32) shapeCasts_S1x320000_S320000,
   StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
   StableHlo.reshape main_v2 main_v3 (rfl : (.i32 : EltTy) = .i32) shapeCasts_S1x320000_S320000]

/-- Between the SparseCore call and the three regions. -/
def ops2 : List (HloOp τ sig (Elt F)) :=
  [StableHlo.reshape main_v4 main_v5 (rfl : (.f32 : EltTy) = .f32) shapeCasts_S4096000_S2048x2000,
   StableHlo.unary main_arg0 main_v6 ((extractStridedSlice S2x2048x128 ![0, 0, 0] · slices_S2x10000x128_S2x2048x128_0_0_0) : (⟨S2x10000x128, .f32⟩ : BufTy).Contents (Elt F) → (⟨S2x2048x128, .f32⟩ : BufTy).Contents (Elt F)),
   StableHlo.binary main_arg3 main_arg3 main_v7 ((fun a b => concatenate S128 0 [⟨S64, a⟩, ⟨S64, b⟩] concatenates_S64_S64_S128_d0) : (⟨S64, .f32⟩ : BufTy).Contents (Elt F) → (⟨S64, .f32⟩ : BufTy).Contents (Elt F) → (⟨S128, .f32⟩ : BufTy).Contents (Elt F)),
   StableHlo.reshape main_v7 main_v8 (rfl : (.f32 : EltTy) = .f32) shapeCasts_S128_S1x128,
   StableHlo.binary main_arg5 main_arg5 main_v9 ((fun a b => concatenate S256 0 [⟨S128, a⟩, ⟨S128, b⟩] concatenates_S128_S128_S256_d0) : (⟨S128, .f32⟩ : BufTy).Contents (Elt F) → (⟨S128, .f32⟩ : BufTy).Contents (Elt F) → (⟨S256, .f32⟩ : BufTy).Contents (Elt F)),
   StableHlo.reshape main_v9 main_v10 (rfl : (.f32 : EltTy) = .f32) shapeCasts_S256_S1x256]

/-- After the regions. -/
def ops3 : List (HloOp τ sig (Elt F)) :=
  [StableHlo.unary main_v13 main_v14 ((extractStridedSlice S2048x128 ![0, 0] · slices_S2048x256_S2048x128_0_0) : (⟨S2048x256, .f32⟩ : BufTy).Contents (Elt F) → (⟨S2048x128, .f32⟩ : BufTy).Contents (Elt F)),
   StableHlo.unary main_v13 main_v15 ((extractStridedSlice S2048x128 ![0, 128] · slices_S2048x256_S2048x128_0_128) : (⟨S2048x256, .f32⟩ : BufTy).Contents (Elt F) → (⟨S2048x128, .f32⟩ : BufTy).Contents (Elt F)),
   StableHlo.unary main_v14 main_v16 (broadcastInDim S1x2048x128 ![1, 2] bcast_S2048x128_S1x2048x128_1_2 : (⟨S2048x128, .f32⟩ : BufTy).Contents (Elt F) → (⟨S1x2048x128, .f32⟩ : BufTy).Contents (Elt F)),
   StableHlo.unary main_v15 main_v17 (broadcastInDim S1x2048x128 ![1, 2] bcast_S2048x128_S1x2048x128_1_2 : (⟨S2048x128, .f32⟩ : BufTy).Contents (Elt F) → (⟨S1x2048x128, .f32⟩ : BufTy).Contents (Elt F)),
   StableHlo.binary main_v16 main_v17 main_v18 ((fun a b => concatenate S2x2048x128 0 [⟨S1x2048x128, a⟩, ⟨S1x2048x128, b⟩] concatenates_S1x2048x128_S1x2048x128_S2x2048x128_d0) : (⟨S1x2048x128, .f32⟩ : BufTy).Contents (Elt F) → (⟨S1x2048x128, .f32⟩ : BufTy).Contents (Elt F) → (⟨S2x2048x128, .f32⟩ : BufTy).Contents (Elt F)),
   StableHlo.unary main_arg5 main_v19 (broadcastInDim S2x7952x128 ![2] bcast_S128_S2x7952x128_2 : (⟨S128, .f32⟩ : BufTy).Contents (Elt F) → (⟨S2x7952x128, .f32⟩ : BufTy).Contents (Elt F)),
   StableHlo.binary main_v18 main_v19 main_v20 ((fun a b => concatenate S2x10000x128 1 [⟨S2x2048x128, a⟩, ⟨S2x7952x128, b⟩] concatenates_S2x2048x128_S2x7952x128_S2x10000x128_d1) : (⟨S2x2048x128, .f32⟩ : BufTy).Contents (Elt F) → (⟨S2x7952x128, .f32⟩ : BufTy).Contents (Elt F) → (⟨S2x10000x128, .f32⟩ : BufTy).Contents (Elt F))]

abbrev rf (r : Ref sig .tc) : DevRef τ sig := Proc.devRef (τ := τ) .tc r

variable (m : (ℓ : Loc nD τ sig) → Buf (Elt F) ℓ) (ρ : Dev nD → PrngReg) (d : Dev nD)

abbrev Vl (F : FTy → Type) : Type := Valuation τ sig (Elt F)

/-- A valuation per device as the regions read one. -/
abbrev toV (W : Dev nD → Vl F) : Val F := fun c r => W c (rf r)

def W0 (d : Dev nD) : Vl F := fun r => m (d, r)
def W1 (d : Dev nD) : Vl F := after ops1 (W0 m d)
def nv (d : Dev nD) : Vec F S320000 .i32 := W1 m d (rf main_v1)
def ev (d : Dev nD) : Vec F S320000 .i32 := W1 m d (rf main_v3)
def ov (d : Dev nD) : Buf (Elt F) (oLoc d) := W1 m d (rf main_v4)
def W2 (d : Dev nD) : Vl F := Function.update (W1 m d) (rf main_v4) (outH (F := F) (nv m d) (ev m d))
def W3 (d : Dev nD) : Vl F := after ops2 (W2 m d)
def W4 (d : Dev nD) : Vl F := Function.update (W3 m d) (rf main_v11) (accA (toV (W3 m)) d 8)
def W5 (d : Dev nD) : Vl F := Function.update (W4 m d) (rf main_v12) (accB (toV (W4 m)) d 8)
def W6 (d : Dev nD) : Vl F := Function.update (W5 m d) (rf main_v13) (outD (toV (W5 m)) d)
def W7 (d : Dev nD) : Vl F := after ops3 (W6 m d)

theorem uc_mem (r : Ref sig .tc) (h : (rf r).isScoped = false) : rf r ∈ ucRefs τ sig :=
  Finset.mem_filter.mpr ⟨StableHlo.devRef_mem_tcRefs _, by rw [h]; decide⟩

/-! ## The ghost state at the launch -/

/-- The pipelines' rounds: the left factor of the right factor. -/
def EP : Emb UP 𝕄 := (Emb.inl : Emb UP (UP × Counters)).trans embR

instance EP_landsIn : (EP (F := F)).LandsIn (upEmb : UEmb _ 𝕄) := by unfold EP embR; infer_instance

abbrev pc : (p : Fin 3) → Pipeline.Cfg sig Λ₀ := Pipeline.pin (pcfgs (F := F)) adm

def u₀ : UU := (initOf (K (F := F)).hsCells (K (F := F)).hsToks,
  (initOf (Pipeline.cells (pc (F := F)) cellOf_inj) (Pipeline.launchToks (pc (F := F)) cellOf_inj), 1))

def G (d : Dev nD) : sProp 𝕄 :=
  iprop((bigSep Finset.univ fun p => Pipeline.cellsGhost (pc (F := F)) EP p d) ∗ (bigSep Finset.univ fun p => Pipeline.toksInit (pc (F := F)) EP p d))

theorem bigSep_emps {I : Type} (s : Finset I) [FloatOps F] : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P (nv m) (ev m) (ov m)).x q thr) := by
  unfold u₀
  iintro Hu
  ihave H := (ownU_pair _ _) $$ Hu
  icases H with ⟨HH, HR⟩
  ihave H2 := (own_pair_emb embR _ _) $$ HR
  icases H2 with ⟨HP0, -⟩
  ihave HP := (Entails.of_eq (show (BI.own (((Emb.inl : Emb UP (UP × Counters)).trans (embR : Emb (UP × Counters) 𝕄)) (initOf (Pipeline.cells (pc (F := F)) cellOf_inj) (Pipeline.launchToks (pc (F := F)) cellOf_inj))) : sProp 𝕄) = (BI.own (EP (F := F) (initOf (Pipeline.cells (pc (F := F)) cellOf_inj) (Pipeline.launchToks (pc (F := F)) cellOf_inj))) : sProp 𝕄) from rfl)) $$ HP0
  imod (Pipeline.fund_ghost (pc (F := F)) (EP (F := F)) cellOf_inj) $$ HP with ⟨Hg, Ht⟩
  imodintro
  isplitl [HH]; · iexact HH
  isplitl [Hg Ht]
  · unfold G
    rw [bigSep_sep']
    isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emps _, bigSep_emps]]
  iempintro

/-! ## One region -/

theorem region_step {p : Fin 3} {pd : (p : Fin 3) → (c : Dev nD) → Pipeline.Dat τ (Elt F) (HIx 1) ℕ UU ℕ (Pipeline.pin (pcfgs (F := F)) adm p) c}
    (R : Pipeline.RegionSeg (pcfgs (F := F)) adm pd none defs₀ 𝒱₀ (K (F := F)).L (K (F := F)).lev p) (c : Dev nD) (Q : PUnit → sProp 𝕄)
    (A B : sProp 𝕄) (hA : R.pre c = A) (hB : R.post c = B) :
    iprop((iprop(boundary (c.tc : Thread nD τ) ∗ B) -∗ Q ⟨⟩) ∗ boundary (c.tc : Thread nD τ) ∗ A ∗ levAts (K (F := F)).L (K (F := F)).lev
        ∗ Pipeline.cellsGhost (pc (F := F)) EP p c ∗ Pipeline.toksInit (pc (F := F)) EP p c)
      ⊢ wp frame (wpE ((K (F := F)).defs (D (F := F))) 𝒱 (T c) none) Set.univ
          (Prog.lift (.customCall (SparseCore.inner (Pipeline.entry p)) ())) Q := by
  subst hA hB
  refine BIBase.Entails.trans ?_ ((K (F := F)).wp_liftProg (D (F := F)) 𝒱 (T c) Set.univ none (Prog.lift (.customCall (Pipeline.entry p) ())) Q)
  have h := Pipeline.RegionSeg.wp (pcfgs (F := F)) adm pd none cellOf_inj (EP (F := F)) defs₀ 𝒱₀ (K (F := F)).L (K (F := F)).lev R c none
    (fun u hu => absurd hu (by simp)) (fun _ => .ret ⟨⟩) Q
  refine BIBase.Entails.trans ?_ h
  clear h
  iintro ⟨Hk, Hrest⟩
  isplitl [Hk]
  · iintro H
    rw [wp_ret]; imodintro
    iapply Hk; iexact H
  iexact Hrest

/-! ## @main -/

theorem main_eq : main (F := F) d = (do
    StableHlo.seq ops1
    (K (F := F)).run d 0
    StableHlo.seq ops2
    Prog.lift (.customCall (SparseCore.inner (Pipeline.entry 0)) ())
    Prog.lift (.customCall (SparseCore.inner (Pipeline.entry 1)) ())
    Prog.lift (.customCall (SparseCore.inner (Pipeline.entry 2)) ())
    StableHlo.seq ops3) := by
  simp only [main, ops1, ops2, ops3, StableHlo.seq, bind_assoc, pure_bind]

theorem ops_sub : (∀ op ∈ ops1 (F := F), op.bufs ⊆ ucRefs τ sig) ∧ (∀ op ∈ ops2 (F := F), op.bufs ⊆ ucRefs τ sig) ∧ (∀ op ∈ ops3 (F := F), op.bufs ⊆ ucRefs τ sig) := by
  have h1 (x y : Ref sig .tc) (hx : (rf x).isScoped = false) (hy : (rf y).isScoped = false) : ({rf x, rf y} : Finset (DevRef τ sig)) ⊆ ucRefs τ sig :=
    Finset.insert_subset (uc_mem x hx) (Finset.singleton_subset_iff.mpr (uc_mem y hy))
  have h2 (x x' y : Ref sig .tc) (hx : (rf x).isScoped = false) (hx' : (rf x').isScoped = false) (hy : (rf y).isScoped = false) :
      ({rf x, rf x', rf y} : Finset (DevRef τ sig)) ⊆ ucRefs τ sig := Finset.insert_subset (uc_mem x hx) (h1 x' y hx' hy)
  refine ⟨?_, ?_, ?_⟩ <;> simp only [ops1, ops2, ops3, List.forall_mem_cons, List.not_mem_nil, false_imp_iff, implies_true, _root_.and_true]
  · exact ⟨h1 _ _ rfl rfl, h1 _ _ rfl rfl, h1 _ _ rfl rfl, h1 _ _ rfl rfl⟩
  · exact ⟨h1 _ _ rfl rfl, h1 _ _ rfl rfl, h2 _ _ _ rfl rfl rfl, h1 _ _ rfl rfl, h2 _ _ _ rfl rfl rfl, h1 _ _ rfl rfl⟩
  · exact ⟨h1 _ _ rfl rfl, h1 _ _ rfl rfl, h1 _ _ rfl rfl, h1 _ _ rfl rfl, h2 _ _ _ rfl rfl rfl, h1 _ _ rfl rfl, h2 _ _ _ rfl rfl rfl⟩

theorem ops_fresh : (∀ op ∈ ops1 (F := F), op.fresh = ∅) ∧ (∀ op ∈ ops2 (F := F), op.fresh = ∅) ∧ (∀ op ∈ ops3 (F := F), op.fresh = ∅) := by
  refine ⟨?_, ?_, ?_⟩ <;> simp only [ops1, ops2, ops3, List.forall_mem_cons, List.not_mem_nil, false_imp_iff, implies_true, _root_.and_true]
  · exact ⟨rfl, rfl, rfl, rfl⟩
  · exact ⟨rfl, rfl, rfl, rfl, rfl, rfl⟩
  · exact ⟨rfl, rfl, rfl, rfl, rfl, rfl, rfl⟩

/-- The unscoped buffers that the SparseCore call does not read or write. -/
def restRefs : Finset (DevRef τ sig) := ((ucRefs τ sig).erase (rf main_v1)).erase (rf main_v3) |>.erase (rf main_v4)

theorem held_three (V : Vl F) : (held (T d) (ucRefs τ sig) V : sProp 𝕄)
    = iprop((nLoc d ↦{fullShare} V (rf main_v1)) ∗ (eLoc d ↦{fullShare} V (rf main_v3)) ∗ (oLoc d ↦{fullShare} V (rf main_v4)) ∗ held (T d) restRefs V) := by
  unfold held restRefs
  have h1 := uc_mem main_v1 rfl
  have h3 : rf main_v3 ∈ (ucRefs τ sig).erase (rf main_v1) := Finset.mem_erase.mpr ⟨by decide, uc_mem main_v3 rfl⟩
  have h4 : rf main_v4 ∈ ((ucRefs τ sig).erase (rf main_v1)).erase (rf main_v3) :=
    Finset.mem_erase.mpr ⟨by decide, Finset.mem_erase.mpr ⟨by decide, uc_mem main_v4 rfl⟩⟩
  conv_lhs => rw [← Finset.insert_erase h1, SparseCore.bigSep_insert' (Finset.notMem_erase _ _), ← Finset.insert_erase h3,
    SparseCore.bigSep_insert' (Finset.notMem_erase _ _), ← Finset.insert_erase h4, SparseCore.bigSep_insert' (Finset.notMem_erase _ _)]

theorem W2_other (r : DevRef τ sig) (h : r ≠ rf main_v4) : W2 m d r = W1 m d r := Function.update_of_ne h _ _

theorem held_W2 : (held (T d) (ucRefs τ sig) (W2 m d) : sProp 𝕄)
    = iprop((nLoc d ↦{fullShare} nv m d) ∗ (eLoc d ↦{fullShare} ev m d) ∗ (oLoc d ↦{fullShare} outH (F := F) (nv m d) (ev m d)) ∗ held (T d) restRefs (W1 m d)) := by
  rw [held_three, W2_other m d _ (by decide), W2_other m d _ (by decide),
    show W2 m d (rf main_v4) = outH (F := F) (nv m d) (ev m d) from Function.update_self _ _ _,
    StableHlo.held_congr (T d) (S := restRefs) (V := W2 m d) (V' := W1 m d) fun r hr => W2_other m d r (Finset.ne_of_mem_erase hr)]
  rfl

/-- What the TensorCore may have recorded after the one SparseCore call. -/
abbrev bnd : ℕ := 8 * SparseCore.Cfg.Blocks.fst 1 1 1

/-- The thread state after the call: its dues, and the rest. -/
def stRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_one : ((K (F := F)).tcSt EH d 1 : sProp 𝕄) = iprop(dues bnd d ∗ stRest d) := by
  unfold SparseCore.Cfg.tcSt dues stRest
  rw [(K (F := F)).Otc_end d (le_refl 1)]

/-- What @main leaves: every unscoped buffer at the last valuation. -/
abbrev FIN (d : Dev nD) : sProp 𝕄 := held (T d) (ucRefs τ sig) (W7 m d)

theorem unscoped_toV (W : Dev nD → Vl F) : (unscopedBufs d (toV W d) : sProp 𝕄) = held (SparseCore.T d) (ucRefs τ sig) (W d) := by
  unfold unscopedBufs held ucRefs StableHlo.tcRefs
  rw [Finset.filter_map, bigSep_map]
  rfl

theorem bigSep_three {M : Type} [URA M] (Φ : Fin 3 → sProp M) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

theorem seq_step {β : Type} (ops : List (HloOp τ sig (Elt F))) (hs : ∀ op ∈ ops, op.bufs ⊆ ucRefs τ sig) (hf : ∀ op ∈ ops, op.fresh = ∅) (V W : Vl F)
    (hW : W = after ops V) (k : PUnit → Prog (TpuEff nD τ sig (Elt F) (SparseCore.Sig (ΛP (F := F)) 1) .tc) β) (Q : β → sProp 𝕄) :
    iprop(boundary (T d) ∗ (held (T d) (ucRefs τ sig) V : sProp 𝕄))
      ⊢ iprop(((boundary (T d) ∗ (held (T d) (ucRefs τ sig) W : sProp 𝕄)) -∗ wp frame (wpE ((K (F := F)).defs (D (F := F))) 𝒱 (T d) none) Set.univ (k ⟨⟩) Q)
        -∗ wp frame (wpE ((K (F := F)).defs (D (F := F))) 𝒱 (T d) none) Set.univ (StableHlo.seq ops >>= k) Q) := by
  subst hW
  exact StableHlo.wp_seq 𝒱 none Set.univ d (ucRefs τ sig) k ops hs hf V

theorem unscoped_held : (unscopedBufs d (fun b => m ((SparseCore.T d).loc b)) : sProp 𝕄) = held (SparseCore.T d) (ucRefs τ sig) (W0 m d) :=
  unscoped_toV d (W0 m)

set_option maxHeartbeats 1000000 in
theorem hmain [∀ e, Nonempty (Elt F e)] (κ : GSem nD τ sig → ℕ) (d : Dev nD) :
    iprop((K (F := F)).ctx EH (P (nv m) (ev m) (ov m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hun, Hts, -⟩, HG⟩
  ihave Hheld := (Entails.of_eq (unscoped_held (F := F) m d)) $$ Hun
  iapply (seq_step d ops1 ops_sub.1 ops_fresh.1 (W0 m d) (W1 m d) rfl _ _) $$ [Hb Hheld]
  · isplitl [Hb]; · iexact Hb
    iexact Hheld
  iintro ⟨Hb, Hheld⟩
  ihave Hh := (Entails.of_eq (held_three (F := F) d (W1 m d))) $$ Hheld
  icases Hh with ⟨Hn, He, Ho, Hrest⟩
  ihave Hst0 := (st_intro (nv m) (ev m) (ov m) d) $$ [Hn He Ho]
  · isplitl [Hn]; · iexact Hn
    isplitl [He]; · iexact He
    iexact Ho
  icases Hst0 with ⟨Hst0, Hkept⟩
  rw [wp_bind]
  iapply ((K (F := F)).wp_run (D (F := F)) 𝒱 (EH := EH) (P := P (nv m) (ev m) (ov m)) κ d 0) $$ [Hst Hst0 Hkept Hrest Hb Hts HG]
  isplitr; · iexact Hctx
  isplitl [Hst]; · iexact Hst
  isplitl [Hst0]; · iexact Hst0
  iintro ⟨Hst, Hdn⟩
  ihave Hback := (dn_elim (nv m) (ev m) (ov m) d) $$ [Hdn Hkept]
  · isplitl [Hdn] <;> iassumption
  icases Hback with ⟨Hn, He, Ho⟩
  ihave Hheld := (Entails.of_eq (held_W2 (F := F) m d).symm) $$ [Hn He Ho Hrest]
  · isplitl [Hn]; · iexact Hn
    isplitl [He]; · iexact He
    isplitl [Ho]; · iexact Ho
    iexact Hrest
  iapply (seq_step d ops2 ops_sub.2.1 ops_fresh.2.1 (W2 m d) (W3 m d) rfl _ _) $$ [Hb Hheld]
  · isplitl [Hb]; · iexact Hb
    iexact Hheld
  iintro ⟨Hb, Hheld⟩
  ihave Hun := (Entails.of_eq (unscoped_toV (F := F) d (W3 m)).symm) $$ Hheld
  ihave Hst' := (Entails.of_eq (show ((K (F := F)).tcSt EH d ((0 : Fin 1).val + 1) : sProp 𝕄) = iprop(dues bnd d ∗ stRest d) from tcSt_one (F := F) d)) $$ Hst
  icases Hst' with ⟨Hdues, Hstr⟩
  ihave #Hlev := (SparseCore.Cfg.ctx_levAts κ) $$ Hctx
  ihave HG' := (Entails.of_eq (show G (F := F) d = iprop((Pipeline.cellsGhost (pc (F := F)) EP 0 d ∗ Pipeline.cellsGhost (pc (F := F)) EP 1 d ∗ Pipeline.cellsGhost (pc (F := F)) EP 2 d)
      ∗ (Pipeline.toksInit (pc (F := F)) EP 0 d ∗ Pipeline.toksInit (pc (F := F)) EP 1 d ∗ Pipeline.toksInit (pc (F := F)) EP 2 d)) from by
    unfold G; rw [bigSep_three, bigSep_three])) $$ HG
  icases HG' with ⟨⟨Hg0, Hg1, Hg2⟩, ⟨Ht0, Ht1, Ht2⟩⟩
  rw [wp_bind]
  iapply (region_step (regA (bnd) (toV (W3 m)) (toV (W4 m)) (fun c => (Function.update_self _ _ _).trans (finalA _ _ c).symm)
    (fun c r hr => Function.update_of_ne (StableHlo.devRef_ne_of_ne hr) _ _)) d _
    iprop(unscopedBufs d (toV (W3 m) d) ∗ dues bnd d) iprop(unscopedBufs d (toV (W4 m) d) ∗ dues bnd d) rfl rfl)
  isplitr [Hb Hun Hdues Hg0 Ht0]; swap
  · isplitl [Hb]; · iexact Hb
    isplitl [Hun Hdues]
    · isplitl [Hun]; · iexact Hun
      iexact Hdues
    isplitr; · iexact Hlev
    isplitl [Hg0]; · iexact Hg0
    iexact Ht0
  iintro ⟨Hb, Hun, Hdues⟩
  rw [wp_bind]
  iapply (region_step (regB (bnd) (toV (W4 m)) (toV (W5 m)) (fun c => (Function.update_self _ _ _).trans (finalB _ _ c).symm)
    (fun c r hr => Function.update_of_ne (StableHlo.devRef_ne_of_ne hr) _ _)) d _
    iprop(unscopedBufs d (toV (W4 m) d) ∗ dues bnd d) iprop(unscopedBufs d (toV (W5 m) d) ∗ dues bnd d) rfl rfl)
  isplitr [Hb Hun Hdues Hg1 Ht1]; swap
  · isplitl [Hb]; · iexact Hb
    isplitl [Hun Hdues]
    · isplitl [Hun]; · iexact Hun
      iexact Hdues
    isplitr; · iexact Hlev
    isplitl [Hg1]; · iexact Hg1
    iexact Ht1
  iintro ⟨Hb, Hun, Hdues⟩
  rw [wp_bind]
  iapply (region_step (regD (bnd) (toV (W5 m)) (toV (W6 m)) (fun c => (Function.update_self _ _ _).trans (finalD _ _ c).symm)
    (fun c r hr => Function.update_of_ne (StableHlo.devRef_ne_of_ne hr) _ _)) d _
    iprop(unscopedBufs d (toV (W5 m) d) ∗ dues bnd d) iprop(unscopedBufs d (toV (W6 m) d) ∗ dues bnd d) rfl rfl)
  isplitr [Hb Hun Hdues Hg2 Ht2]; swap
  · isplitl [Hb]; · iexact Hb
    isplitl [Hun Hdues]
    · isplitl [Hun]; · iexact Hun
      iexact Hdues
    isplitr; · iexact Hlev
    isplitl [Hg2]; · iexact Hg2
    iexact Ht2
  iintro ⟨Hb, Hun, Hdues⟩
  ihave Hheld := (Entails.of_eq (unscoped_toV (F := F) d (W6 m))) $$ Hun
  rw [← bind_pure (StableHlo.seq (ops3 (F := F)))]
  iapply (seq_step d ops3 ops_sub.2.2 ops_fresh.2.2 (W6 m d) (W7 m d) rfl _ _) $$ [Hb Hheld]
  · isplitl [Hb]; · iexact Hb
    iexact Hheld
  iintro ⟨Hb, Hheld⟩
  rw [wp_pure]; imodintro
  isplitl [Hdues Hstr]
  · rw [tcSt_one]
    isplitl [Hdues] <;> iassumption
  isplitl [Hheld]; · iexact Hheld
  isplitl [Hb] <;> iassumption

/-! ## The run -/

theorem held_read (V : Vl F) (s' : Phys nD τ sig (Elt F)) (S : Finset (DevRef τ sig)) :
    iprop(held (T d) S V ∗ SI s') ⊢ (⌜∀ r ∈ S, s'.mem.mem (d, r) = V r⌝ : sProp 𝕄) := by
  classical
  induction S using Finset.induction_on with
  | empty => iintro -; ipureintro; exact fun r hr => absurd hr (Finset.notMem_empty r)
  | insert a S ha ih =>
    unfold held at ih ⊢
    rw [SparseCore.bigSep_insert' ha]
    iintro ⟨⟨Ha, HS⟩, HSI⟩
    ihave H := (persistent_entails_right ih) $$ [HS HSI]
    · isplitl [HS] <;> iassumption
    icases H with ⟨%h1, -, HSI⟩
    ihave H := (SI_pointsTo_agree (st := s') (ℓ := (d, a)) (I := Finset.univ) (q := fullShare) (f := V a)) $$ [HSI Ha]
    · isplitl [HSI] <;> iassumption
    icases H with %h2
    ipureintro
    intro r hr
    rcases Finset.mem_insert.mp hr with rfl | hr
    · exact funext fun i => h2 i (Finset.mem_univ i)
    · exact h1 r hr

def fq (d : Dev nD) (s' : Phys nD τ sig (Elt F)) : Prop := ∀ r ∈ ucRefs τ sig, s'.mem.mem (d, r) = W7 m d r

/-- Every unscoped buffer ends at the last valuation, every semaphore at zero. -/
def QC : PUnit × MemSt nD τ sig (Elt F) → Prop := fun r => (∀ c : Dev nD, ∀ x ∈ ucRefs τ sig, r.2.mem (c, x) = W7 m c x) ∧ r.2.sem = fun _ => 0

theorem run_main [∀ e, Nonempty (Elt F e)] (he : ∀ d, ColOK (F := F) (ev m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (nv m) (ev m) (ov m)) (A := ∅) facts v₀
    (fun q hq => match q with | 0 => nomatch hq)
    (fun q _ => match q with | 0 => tileObl (nv m) (ev m) (ov m) facts he)
    (fun q _ => match q with | 0 => SparseCore.Cfg.VecSplit.of_plain (vecSplit (nv m) (ev m) (ov m)))
    m ρ main (G (F := F)) (FIN m) (u₀ (F := F)) (sep_elim_left.trans (hu₀ m)) (hmain m ρ) (fq m) (fun d s' => held_read d _ s' _) (QC m) (fun _ h hz => ⟨h, hz⟩)

/-! ## The arguments at the end -/

theorem W7_arg (r : Ref sig .tc) (h1 : ∀ op ∈ ops1 (F := F), rf r ∉ op.writes) (h2 : ∀ op ∈ ops2 (F := F), rf r ∉ op.writes) (h3 : ∀ op ∈ ops3 (F := F), rf r ∉ op.writes)
    (h4 : r ≠ main_v4) (h11 : r ≠ main_v11) (h12 : r ≠ main_v12) (h13 : r ≠ main_v13) : W7 m d (rf r) = m (d, rf r) := by
  unfold W7
  rw [StableHlo.after_of_forall_not_mem _ _ h3]
  unfold W6 W5 W4
  rw [Function.update_of_ne (StableHlo.devRef_ne_of_ne h13), Function.update_of_ne (StableHlo.devRef_ne_of_ne h12), Function.update_of_ne (StableHlo.devRef_ne_of_ne h11)]
  unfold W3
  rw [StableHlo.after_of_forall_not_mem _ _ h2]
  unfold W2
  rw [Function.update_of_ne (StableHlo.devRef_ne_of_ne h4)]
  unfold W1
  rw [StableHlo.after_of_forall_not_mem _ _ h1]
  rfl

end Cert.Proof.Run

end
-- ==== Proof.Frame.lean ====
/-  The indices' range from the precondition, and the frames of the kernel, as written and over the ideal values. -/
module

public import proofs.«01_k».proof.Defs
public import proofs.«01_k».proof.Proof.Run
public import proofs.«01_k».proof.Proof.Gen.Kernel
public import proofs.«01_k».proof.Proof.Gen.Pre_in_range
public import proofs.«01_k».proof.Proof.Gen.ReferenceIdeal
public import proofs.«01_k».proof.Proof.Gen.ReferenceIdeal.Run
public import Idealize.ShloMosaic.Lib.ReduceAll
public import Idealize.ShloMosaic.Lib.Quiescent
public import Idealize.ShloMosaic.Lib.ValueLayout

@[expose] public section

noncomputable section

namespace Cert.Proof.Frame

open Cert.KernelIdeal Cert.KernelIdeal.Gen Cert.Proof.Sc Cert.Proof.Run
open Idealize.ShloMosaic Idealize.ShloMosaic.ValueIdx Idealize.ShloMosaic.TcCoe Idealize.SL.Sem
open Idealize.ShloMosaic.StableHlo (after)

variable {F : FTy → Type} [FloatOps F]

/-- An index that the precondition holds of is a node or edge number below 2000. -/
theorem word_range (v : BitVec 32) (e : IntOp.andi (IntOp.cmpi .sge v 0#32) (IntOp.cmpi .slt v 2000#32) = 1#1) : v.toNat < 2000 := by
  have h1 : ∀ p q : Bool, IntOp.andi (BitVec.ofBool p) (BitVec.ofBool q) = 1#1 → p = true ∧ q = true := by decide
  obtain ⟨ha, hb⟩ := h1 _ _ e
  replace ha : BitVec.sle 0#32 v = true := ha
  replace hb : BitVec.slt v 2000#32 = true := hb
  rw [BitVec.sle_eq_decide, decide_eq_true_eq] at ha
  rw [BitVec.slt_eq_decide, decide_eq_true_eq] at hb
  replace ha : 0 ≤ v.toInt := ha
  replace hb : v.toInt < 2000 := hb
  rw [BitVec.toInt_eq_toNat_cond] at ha hb
  have := v.isLt
  split at ha <;> split at hb <;> omega

theorem range_of_pre (a0 : FVec F S2x10000x128 .f32) (a1 : IVec S2x320000 32) (a2 : FVec F S128x64 .f32) (a3 : FVec F S64 .f32) (a4 : FVec F S64x128 .f32)
    (a5 : FVec F S128 .f32) (h : Cert.Pre_in_range.fn (F := F) a0 a1 a2 a3 a4 a5 = fun _ => 1#1) (j : S2x320000.Idx) : (a1 j).toNat < 2000 := by
  have h0 := congrFun h (fun a => a.elim0)
  unfold Cert.Pre_in_range.fn at h0
  haveI : Subsingleton Cert.Pre_in_range.S_.Idx := ⟨fun a b => funext fun i => i.elim0⟩
  have e := Host.reduce_andi_all _ _ _ _ _ h0 j
  exact word_range _ e

variable (m : (ℓ : Loc nD τ sig) → Buf (Elt F) ℓ) (d : Dev nD)

/-- The index array on device `d`. -/
abbrev hidx : Vec F S2x320000 .i32 := m ((SparseCore.T d).loc main_arg1)

theorem nv_eq : nv m d = shapeCast S320000 (extractStridedSlice S1x320000 ![0, 0] (hidx m d) slices_S2x320000_S1x320000_0_0) shapeCasts_S1x320000_S320000 := by
  unfold nv W1 ops1
  after_results_simp
  rfl

theorem ev_eq : ev m d = shapeCast S320000 (extractStridedSlice S1x320000 ![1, 0] (hidx m d) slices_S2x320000_S1x320000_1_0) shapeCasts_S1x320000_S320000 := by
  unfold ev W1 ops1
  after_results_simp
  rfl

theorem row_apply (x : Vec F S2x320000 .i32) (r : Fin 2) (h : S2x320000.Slices ![r.val, 0] S1x320000) (h' : S1x320000.ShapeCasts S320000) (k : Fin 320000) :
    shapeCast S320000 (extractStridedSlice S1x320000 ![r.val, 0] x h) h' (ix1 k) = x (ix2 r k) := by
  rw [shapeCast_1a_a_apply]
  refine extractStridedSlice_apply _ _ _ _ _ ?_
  intro a
  match a with
  | 0 => rfl
  | 1 => exact (Nat.zero_add _).symm

theorem nv_apply (k : Fin 320000) : nv m d (ix1 k) = hidx m d (ix2 (0 : Fin 2) k) := by
  rw [nv_eq]; exact row_apply _ 0 _ _ k
theorem ev_apply (k : Fin 320000) : ev m d (ix1 k) = hidx m d (ix2 (1 : Fin 2) k) := by
  rw [ev_eq]; exact row_apply _ 1 _ _ k

theorem colOK (h : ∀ j, @BitVec.toNat 32 (hidx m d j) < 2000) : ColOK (F := F) (ev m d) := fun j => by
  obtain ⟨k, rfl⟩ : ∃ k : Fin 320000, j = ix1 k := ⟨_, eq_ix1 j⟩
  rw [ev_apply]; exact h _
theorem rowOK (h : ∀ j, @BitVec.toNat 32 (hidx m d j) < 2000) : ColOK (F := F) (nv m d) := fun j => by
  obtain ⟨k, rfl⟩ : ∃ k : Fin 320000, j = ix1 k := ⟨_, eq_ix1 j⟩
  rw [nv_apply]; exact h _

/-- The arguments of @main end as they were. -/
theorem args_kept (r : PUnit × MemSt nD τ sig (Elt F)) (h : QC m r) :
    ∀ c : Dev nD, ∀ x ∈ [main_arg0, main_arg1, main_arg2, main_arg3, main_arg4, main_arg5], r.2.mem ((c.tc : Thread nD τ).loc x) = m ((c.tc : Thread nD τ).loc x) := by
  have nw : ∀ x ∈ [main_arg0, main_arg1, main_arg2, main_arg3, main_arg4, main_arg5], x ∉ ([main_v0, main_v1, main_v2, main_v3, main_v4, main_v5, main_v6, main_v7, main_v8,
    main_v9, main_v10, main_v11, main_v12, main_v13, main_v14, main_v15, main_v16, main_v17, main_v18, main_v19, main_v20] : List (Ref sig .tc)) := by decide
  have us : ∀ x ∈ [main_arg0, main_arg1, main_arg2, main_arg3, main_arg4, main_arg5], (rf x).isScoped = false := by decide
  intro c x hx
  have hn := nw x hx
  simp only [List.mem_cons, List.not_mem_nil, or_false, not_or] at hn
  refine ((h.1 c (rf x) (uc_mem x (us x hx)))).trans (W7_arg m c x ?_ ?_ ?_ hn.2.2.2.2.1 hn.2.2.2.2.2.2.2.2.2.2.2.1 hn.2.2.2.2.2.2.2.2.2.2.2.2.1 hn.2.2.2.2.2.2.2.2.2.2.2.2.2.1)
  · simp only [ops1, List.forall_mem_cons, List.not_mem_nil, false_imp_iff, implies_true, and_true]
    refine ⟨?_, ?_, ?_, ?_⟩ <;> refine fun hw => StableHlo.devRef_ne_of_ne ?_ (Finset.mem_singleton.mp hw) <;> tauto
  · simp only [ops2, List.forall_mem_cons, List.not_mem_nil, false_imp_iff, implies_true, and_true]
    refine ⟨?_, ?_, ?_, ?_, ?_, ?_⟩ <;> refine fun hw => StableHlo.devRef_ne_of_ne ?_ (Finset.mem_singleton.mp hw) <;> tauto
  · simp only [ops3, List.forall_mem_cons, List.not_mem_nil, false_imp_iff, implies_true, and_true]
    refine ⟨?_, ?_, ?_, ?_, ?_, ?_, ?_⟩ <;> refine fun hw => StableHlo.devRef_ne_of_ne ?_ (Finset.mem_singleton.mp hw) <;> tauto

theorem args_six (r : PUnit × MemSt nD τ sig (Elt F)) (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  have a := args_kept m r h c
  exact ⟨a main_arg0 (by simp), a main_arg1 (by simp), a main_arg2 (by simp), a main_arg3 (by simp), a main_arg4 (by simp), a main_arg5 (by simp)⟩

theorem nonempty_bits : ∀ e, Nonempty (Elt Bits e) := fun e => by cases e <;> exact ⟨(0 : BitVec _)⟩

/-- The frame at any float values. -/
theorem frame_any [∀ e, Nonempty (Elt F e)] (ρ : Dev nD → PrngReg) (h : ∀ d : Dev nD, ∀ j, @BitVec.toNat 32 (hidx m d j) < 2000) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run Cert.KernelIdeal.defs _ _).mono (fun _ (q : QC (F := F) m _) => ⟨args_six m _ q, q.2⟩) (run_main m ρ fun d => colOK m d (h d))

/-- The two programs' SparseCore bodies at two spellings of one grid point. -/
theorem body_heq (i i' : (a : Fin 2) → Fin (![2, 16] a)) (h : i = i') :
    HEq (Cert.Kernel.cc0__hbuild_body (F := F) i (Memref.whole Cert.Kernel.main_v1_scv) (Memref.isWhole_whole _) (Memref.whole Cert.Kernel.main_v3_scv) (Memref.isWhole_whole _) (Memref.whole Cert.Kernel.main_v4_scv) (Memref.isWhole_whole _) (Memref.whole Cert.Kernel.cc0_scratch0) (Memref.isWhole_whole _) (Memref.whole Cert.Kernel.cc0_scratch1) (Memref.isWhole_whole _) (Memref.whole Cert.Kernel.cc0_scratch2) (Memref.isWhole_whole _) Cert.Kernel.cc0_scoped0 Cert.Kernel.cc0_scoped1 Cert.Kernel.cc0_scoped2)
      (Cert.KernelIdeal.cc0__hbuild_body (F := F) i' (Memref.whole Cert.KernelIdeal.main_v1_scv) (Memref.isWhole_whole _) (Memref.whole Cert.KernelIdeal.main_v3_scv) (Memref.isWhole_whole _) (Memref.whole Cert.KernelIdeal.main_v4_scv) (Memref.isWhole_whole _) (Memref.whole Cert.KernelIdeal.cc0_scratch0) (Memref.isWhole_whole _) (Memref.whole Cert.KernelIdeal.cc0_scratch1) (Memref.isWhole_whole _) (Memref.whole Cert.KernelIdeal.cc0_scratch2) (Memref.isWhole_whole _) Cert.KernelIdeal.cc0_scoped0 Cert.KernelIdeal.cc0_scoped1 Cert.KernelIdeal.cc0_scoped2) := by
  subst h; exact HEq.rfl

/-- The SparseCore entry of the two body tables. -/
theorem defs₀_sc (a c s) : Cert.Kernel.defs₀ (F := F) (.scVector c s) 0 a = Cert.KernelIdeal.defs₀ (F := F) (.scVector c s) 0 a := by
  unfold Cert.Kernel.defs₀ Cert.KernelIdeal.defs₀
  dsimp only
  refine congrArg (fun f => SparseCore.onTile _ _ f _ c s) (funext fun c => funext fun s => ?_)
  exact eq_of_heq (body_heq _ _ (funext fun i => by match i with | 0 => rfl | 1 => rfl))

set_option maxHeartbeats 2000000 in
/-- The two programs have the same kernel bodies. -/
theorem defs₀_eq : Cert.Kernel.defs₀ (F := F) = Cert.KernelIdeal.defs₀ (F := F) := by
  funext p l a
  cases p with
  | tc =>
    match l, a with
    | 0, _ => rfl
    | 1, _ => rfl
    | 2, _ => rfl
    | 3, _ => rfl
  | scVector c s =>
    match l, a with
    | 0, a => exact defs₀_sc a c s
    | 1, _ => rfl
    | 2, _ => rfl
    | 3, _ => rfl
  | scScalar c => rfl

/-- The two programs have the same body table. -/
theorem defs_eq : Cert.Kernel.defs (F := F) = Cert.KernelIdeal.defs (F := F) := by
  unfold Cert.Kernel.defs Cert.KernelIdeal.defs
  rw [defs₀_eq]
  rfl

theorem threads_eq : Cert.Kernel.threads (F := F) = Cert.KernelIdeal.threads (F := F) := rfl

theorem frame_kernel : Cert.quiescent_Kernel := fun m ρ h => by
  haveI := nonempty_bits
  rw [defs_eq, threads_eq]
  exact frame_any (F := Bits) m ρ fun d j => range_of_pre _ _ _ _ _ _ (h d) j

theorem frame_ideal : Cert.quiescent_KernelIdeal := fun m ρ h =>
  frame_any (F := Ideal) m ρ fun d j => range_of_pre _ _ _ _ _ _ (h d) j

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof.Frame

end
-- ==== Proof.Math.lean ====
/-  Sums of extended reals over pairs, by what the pairs' two ends are: the counts of pairs as coefficients. -/
module

public import Mathlib.Data.EReal.Operations
public import Mathlib.Data.EReal.Inv
public import Mathlib.Algebra.BigOperators.Fin
public import Mathlib.Algebra.BigOperators.Group.Finset.Sigma

@[expose] public section

namespace Cert.Proof.Pairs

variable {K : Type} [Fintype K]

/-- How many pairs have first end `a` and second end `b`. -/
def cnt (p q : K → ℕ) (a b : ℕ) : ℕ := (Finset.univ.filter fun k => p k = a ∧ q k = b).card

theorem cnt_swap (p q : K → ℕ) (a b : ℕ) : cnt p q a b = cnt q p b a := by
  unfold cnt
  exact congrArg Finset.card (Finset.filter_congr fun k _ => and_comm)

theorem nat_mul (c : ℕ) (x : EReal) : ((c : ℕ) : EReal) * x = c • x := (EReal.nsmul_eq_mul c x).symm

/-- A nonnegative number that is not infinite goes into a sum. -/
theorem mul_sum {ι : Type} (s : Finset ι) (c : EReal) (h0 : 0 ≤ c) (h1 : c ≠ ⊤) (f : ι → EReal) : c * ∑ k ∈ s, f k = ∑ k ∈ s, c * f k := by
  classical
  induction s using Finset.induction_on with
  | empty => simp
  | insert a s ha ih => rw [Finset.sum_insert ha, Finset.sum_insert ha, EReal.left_distrib_of_nonneg_of_ne_top h0 h1, ih]

/-- A sum weighted by the counts is a sum over the pairs. -/
theorem sum_cnt (p q : K → ℕ) (M : ℕ) (hp : ∀ k, p k < M) (b : ℕ) (y : ℕ → EReal) :
    ∑ a : Fin M, ((cnt p q a.val b : ℕ) : EReal) * y a.val = ∑ k ∈ Finset.univ.filter (fun k => q k = b), y (p k) := by
  classical
  rw [← Finset.sum_fiberwise_of_maps_to (s := Finset.univ.filter fun k => q k = b) (t := (Finset.univ : Finset (Fin M)))
    (g := fun k => ⟨p k, hp k⟩) (fun _ _ => Finset.mem_univ _)]
  refine Finset.sum_congr rfl fun a _ => ?_
  rw [nat_mul, Finset.sum_congr (s₂ := Finset.univ.filter fun k => p k = a.val ∧ q k = b) (g := fun _ => y a.val) ?_ ?_, Finset.sum_const]
  · rfl
  · ext k
    simp only [Finset.mem_filter, Finset.mem_univ, _root_.true_and, Fin.ext_iff]
    exact and_comm
  · intro k hk
    simp only [Finset.mem_filter, Finset.mem_univ, _root_.true_and] at hk
    rw [hk.1]

/-- How many pairs have second end `b`. -/
def deg (q : K → ℕ) (b : ℕ) : ℕ := (Finset.univ.filter fun k => q k = b).card

theorem sum_cnt_one (p q : K → ℕ) (M : ℕ) (hp : ∀ k, p k < M) (b : ℕ) :
    ∑ a : Fin M, ((cnt p q a.val b : ℕ) : EReal) * 1 = ((deg q b : ℕ) : EReal) := by
  rw [sum_cnt p q M hp b fun _ => 1, Finset.sum_const, EReal.nsmul_eq_mul, mul_one]; rfl

/-- One over a count, and zero over none. -/
noncomputable def inv (c : ℕ) : EReal := if c = 0 then 0 else 1 / ((c : ℕ) : EReal)

theorem inv_real (c : ℕ) : ∃ r : ℝ, 0 ≤ r ∧ inv c = (r : EReal) := by
  unfold inv
  split
  · exact ⟨0, le_rfl, rfl⟩
  · refine ⟨1 / (c : ℝ), by positivity, ?_⟩
    rw [EReal.coe_div]
    norm_num

theorem inv_nonneg (c : ℕ) : 0 ≤ inv c := by
  obtain ⟨r, h, e⟩ := inv_real c
  rw [e]; exact EReal.coe_nonneg.2 h

theorem inv_ne_top (c : ℕ) : inv c ≠ ⊤ := by
  obtain ⟨r, _, e⟩ := inv_real c
  rw [e]; exact EReal.coe_ne_top r

variable (n e : K → ℕ)

/-- One hypergraph convolution of node features `y`, at node `i`: the edges' means, then the nodes'. -/
noncomputable def edge (y : ℕ → EReal) (j : ℕ) : EReal := ∑ k ∈ Finset.univ.filter (fun k => e k = j), inv (deg e (e k)) * y (n k)
noncomputable def node (y : ℕ → EReal) (i : ℕ) : EReal := ∑ k ∈ Finset.univ.filter (fun k => n k = i), inv (deg n (n k)) * edge n e y (e k)

/-- The weighted sums of the kernel. -/
noncomputable def wEdge (M : ℕ) (y : ℕ → EReal) (j : ℕ) : EReal := ∑ a : Fin M, ((cnt n e a.val j : ℕ) : EReal) * y a.val
noncomputable def wNode (E M : ℕ) (y : ℕ → EReal) (i : ℕ) : EReal :=
  inv (deg n i) * ∑ j : Fin E, ((cnt n e i j.val : ℕ) : EReal) * (inv (deg e j.val) * wEdge n e M y j.val)

theorem edge_eq (M : ℕ) (hn : ∀ k, n k < M) (y : ℕ → EReal) (j : ℕ) : edge n e y j = inv (deg e j) * wEdge n e M y j := by
  unfold edge wEdge
  rw [sum_cnt n e M hn, mul_sum _ _ (inv_nonneg _) (inv_ne_top _)]
  refine Finset.sum_congr rfl fun k hk => ?_
  rw [(Finset.mem_filter.1 hk).2]

theorem node_eq (E M : ℕ) (hn : ∀ k, n k < M) (he : ∀ k, e k < E) (y : ℕ → EReal) (i : ℕ) : node n e y i = wNode n e E M y i := by
  unfold node wNode
  have h := sum_cnt e n E he i fun j => inv (deg e j) * wEdge n e M y j
  simp only [cnt_swap e n] at h
  rw [h, mul_sum _ _ (inv_nonneg _) (inv_ne_top _)]
  refine Finset.sum_congr rfl fun k hk => ?_
  rw [(Finset.mem_filter.1 hk).2, edge_eq n e M hn]

/-- A node in no pair gets nothing. -/
theorem node_none (y : ℕ → EReal) (i : ℕ) (h : ∀ k, n k ≠ i) : node n e y i = 0 := by
  unfold node
  rw [Finset.filter_false_of_mem fun k _ => h k, Finset.sum_empty]

/-- Only the features of nodes in a pair matter. -/
theorem node_congr (y y' : ℕ → EReal) (h : ∀ k, y (n k) = y' (n k)) (i : ℕ) : node n e y i = node n e y' i := by
  unfold node edge
  simp only [h]

end Cert.Proof.Pairs
-- ==== Proof.KVal.lean ====
/-  The three dense stages over the ideal values, read at an index: given the counts, the stages compute the weighted sums. -/
module

public import proofs.«01_k».proof.Proof.Final
public import proofs.«01_k».proof.Proof.Math
public import Idealize.ShloMosaic.Lib.Pointwise
public import Idealize.ShloMosaic.Lib.IdealHost

@[expose] public section

set_option maxRecDepth 16384

noncomputable section

namespace Cert.Proof.KVal

open Cert.KernelIdeal Cert.KernelIdeal.Gen
open Idealize.ShloMosaic Idealize.ShloMosaic.TcCoe
open Idealize.ShloMosaic.Pipeline (Dat Cfg Window)
open Cert.Proof.Sc Cert.Proof.Body Cert.Proof.Region Cert.Proof.Pairs

/-! ## The stages' payloads -/

theorem payA (v3 : Vec Ideal S256x2000 .f32) (v5 : Vec Ideal S1x256x128 .f32) (v7 : Vec Ideal S128x64 .f32) (v9 : Vec Ideal S1x256x128 .f32) (v15 : Vec Ideal S2000x192 .f32)
    (j : Fin 2000) (c : Fin 192) :
    (k1_pay2 v3 v5 v7 v9 v7 v15 (ix2 j c) : EReal)
      = v15 (ix2 j c) + ∑ x : Fin 256, v3 (ix2 x j) *
          (if h : c.val < 64 then ∑ k : Fin 128, v5 (ix3 0 x k) * v7 (ix2 k ⟨c.val, h⟩)
          else if h : c.val - 64 < 64 then ∑ k : Fin 128, v9 (ix3 0 x k) * v7 (ix2 k ⟨c.val - 64, h⟩) else 1 : EReal) := by
  pointwise [k1_pay2]

theorem payC (v3 : Vec Ideal S256x2000 .f32) (v5 : Vec Ideal S2000x192 .f32) (v28 : Vec Ideal S1x128 .f32) (r : Fin 256) (c : Fin 128) :
    (k2_pay4 v3 v5 v28 (ix2 r c) : EReal)
      = (if 0 < ∑ x : Fin 2000, (v3 (ix2 r x) : EReal) then Ideal.div 1 (∑ x : Fin 2000, (v3 (ix2 r x) : EReal)) else 0)
        * (∑ x : Fin 2000, v3 (ix2 r x) * ((if 0 < (v5 (ix2 x 128) : EReal) then Ideal.div 1 (v5 (ix2 x 128)) else 0) * v5 (ix2 x ⟨c.val, by omega⟩)))
        + v28 (ix2 0 c) := by
  pointwise [k2_pay4, k2_pay3]

theorem payB (v3 : FVec Ideal S256x2000 .f32) (v5 : Vec Ideal S2000x192 .f32) (v28 : Vec Ideal S1x128 .f32) (v33 : Vec Ideal S64x128 .f32) (v39 : Vec Ideal S2000x256 .f32)
    (j : Fin 2000) (c : Fin 256) :
    (k2_pay1 (k2_pay3 v3) (k2_pay5 v3 v5 v28 v33) (k2_pay6 v3 v5 v28) v33 v39 (ix2 j c) : EReal)
      = v39 (ix2 j c) + ∑ x : Fin 256, v3 (ix2 x j) *
          (if h : c.val < 128 then ∑ k : Fin 64, k2_pay4 v3 v5 v28 (ix2 x ⟨k.val, by omega⟩) * v33 (ix2 k ⟨c.val, h⟩)
          else ∑ k : Fin 64, k2_pay4 v3 v5 v28 (ix2 x ⟨64 + k.val, by omega⟩) * v33 (ix2 k ⟨c.val - 128, by omega⟩) : EReal) := by
  pointwise [k2_pay1, k2_pay5, k2_pay6, k2_pay3]

theorem payD (v0 : Vec Ideal S256x2000 .f32) (v2 : Vec Ideal S2000x192 .f32) (v4 : Vec Ideal S2000x256 .f32) (v26 : Vec Ideal S1x256 .f32) (r : Fin 256) (c : Fin 256) :
    (k3_pay1 v0 v2 v4 v26 (ix2 r c) : EReal)
      = (if 0 < ∑ x : Fin 2000, (v0 (ix2 r x) : EReal) then Ideal.div 1 (∑ x : Fin 2000, (v0 (ix2 r x) : EReal)) else 0)
        * (∑ x : Fin 2000, v0 (ix2 r x) * ((if 0 < (v2 (ix2 x 128) : EReal) then Ideal.div 1 (v2 (ix2 x 128)) else 0) * v4 (ix2 x c)))
        + v26 (ix2 0 c) := by
  pointwise [k3_pay1]

theorem inv_div (d : ℕ) : (if 0 < ((d : ℕ) : EReal) then Ideal.div 1 ((d : ℕ) : EReal) else 0) = Pairs.inv d := by
  unfold Pairs.inv
  by_cases h : d = 0
  · subst h; simp
  · have h' : ((d : ℕ) : EReal) ≠ 0 := by exact_mod_cast h
    have hp : 0 < ((d : ℕ) : EReal) := by exact_mod_cast Nat.pos_of_ne_zero h
    rw [if_pos hp, if_neg h]
    unfold Ideal.div
    rw [if_neg h']
    rfl

/-! ## The blocks -/

variable (V : Val Ideal) (c : Dev nD)

def aH : Vec Ideal S2048x2000 .f32 := V c main_v5
def aX : Vec Ideal S2x2048x128 .f32 := V c main_v6
def aW1 : Vec Ideal S128x64 .f32 := V c main_arg2
def aT1 : Vec Ideal S2000x192 .f32 := V c main_v11
def aW2 : Vec Ideal S64x128 .f32 := V c main_arg4
def aB1 : Vec Ideal S1x128 .f32 := V c main_v8
def aT2 : Vec Ideal S2000x256 .f32 := V c main_v12
def aB2 : Vec Ideal S1x256 .f32 := V c main_v10

theorem idx1_0 : ∀ t : Fin cfg1.N, win1_0.index t 0 = t.val ∧ win1_0.index t 1 = 0 := by
  intro t
  have h : ∀ t : Fin grid1.N, win1_0.index t 0 = t.val ∧ win1_0.index t 1 = 0 := by decide
  exact h t
theorem idx1_1 : ∀ t : Fin cfg1.N, win1_1.index t 0 = 0 ∧ win1_1.index t 1 = t.val ∧ win1_1.index t 2 = 0 := by
  intro t
  have h : ∀ t : Fin grid1.N, win1_1.index t 0 = 0 ∧ win1_1.index t 1 = t.val ∧ win1_1.index t 2 = 0 := by decide
  exact h t
theorem idx1_2 : ∀ t : Fin cfg1.N, win1_2.index t 0 = 0 ∧ win1_2.index t 1 = 0 := by
  intro t
  have h : ∀ t : Fin grid1.N, win1_2.index t 0 = 0 ∧ win1_2.index t 1 = 0 := by decide
  exact h t
theorem idx2_0 : ∀ t : Fin cfg2.N, win2_0.index t 0 = t.val ∧ win2_0.index t 1 = 0 := by
  intro t
  have h : ∀ t : Fin grid2.N, win2_0.index t 0 = t.val ∧ win2_0.index t 1 = 0 := by decide
  exact h t
theorem idx2_1 : ∀ t : Fin cfg2.N, win2_1.index t 0 = 0 ∧ win2_1.index t 1 = 0 := by
  intro t
  have h : ∀ t : Fin grid2.N, win2_1.index t 0 = 0 ∧ win2_1.index t 1 = 0 := by decide
  exact h t
theorem idx2_2 : ∀ t : Fin cfg2.N, win2_2.index t 0 = 0 ∧ win2_2.index t 1 = 0 := by
  intro t
  have h : ∀ t : Fin grid2.N, win2_2.index t 0 = 0 ∧ win2_2.index t 1 = 0 := by decide
  exact h t
theorem idx2_3 : ∀ t : Fin cfg2.N, win2_3.index t 0 = 0 ∧ win2_3.index t 1 = 0 := by
  intro t
  have h : ∀ t : Fin grid2.N, win2_3.index t 0 = 0 ∧ win2_3.index t 1 = 0 := by decide
  exact h t
theorem idx3_0 : ∀ t : Fin cfg3.N, win3_0.index t 0 = t.val ∧ win3_0.index t 1 = 0 := by
  intro t
  have h : ∀ t : Fin grid3.N, win3_0.index t 0 = t.val ∧ win3_0.index t 1 = 0 := by decide
  exact h t
theorem idx3_1 : ∀ t : Fin cfg3.N, win3_1.index t 0 = 0 ∧ win3_1.index t 1 = 0 := by
  intro t
  have h : ∀ t : Fin grid3.N, win3_1.index t 0 = 0 ∧ win3_1.index t 1 = 0 := by decide
  exact h t
theorem idx3_2 : ∀ t : Fin cfg3.N, win3_2.index t 0 = 0 ∧ win3_2.index t 1 = 0 := by
  intro t
  have h : ∀ t : Fin grid3.N, win3_2.index t 0 = 0 ∧ win3_2.index t 1 = 0 := by decide
  exact h t
theorem idx3_3 : ∀ t : Fin cfg3.N, win3_3.index t 0 = 0 ∧ win3_3.index t 1 = 0 := by
  intro t
  have h : ∀ t : Fin grid3.N, win3_3.index t 0 = 0 ∧ win3_3.index t 1 = 0 := by decide
  exact h t

theorem bA0 (t : Fin cfg1.N) (x : Fin 256) (j : Fin 2000) (h : 256 * t.val + x.val < 2048) : blkA0 V c t (ix2 x j) = aH V c (ix2 ⟨256 * t.val + x.val, h⟩ j) := by
  have hi := idx1_0 t
  refine congrArg (aH V c) (funext fun a => Fin.ext ?_)
  match a with
  | ⟨0, _⟩ => show win1_0.index t 0 * 256 + 1 * x.val = 256 * t.val + x.val; rw [hi.1]; omega
  | ⟨1, _⟩ => show win1_0.index t 1 * 2000 + 1 * j.val = j.val; rw [hi.2]; omega

theorem bA1 (t : Fin cfg1.N) (p : Fin 2) (x : Fin 256) (k : Fin 128) (h : 256 * t.val + x.val < 2048) :
    plane p (blkA1 V c t) (ix3 0 x k) = aX V c (ix3 p ⟨256 * t.val + x.val, h⟩ k) := by
  have hi := idx1_1 t
  refine congrArg (aX V c) (funext fun a => Fin.ext ?_)
  match a with
  | ⟨0, _⟩ => show win1_1.index t 0 * 2 + 1 * (p.val + 1 * 0) = p.val; rw [hi.1]; omega
  | ⟨1, _⟩ => show win1_1.index t 1 * 256 + 1 * (0 + 1 * x.val) = 256 * t.val + x.val; rw [hi.2.1]; omega
  | ⟨2, _⟩ => show win1_1.index t 2 * 128 + 1 * (0 + 1 * k.val) = k.val; rw [hi.2.2]; omega

theorem bA2 (t : Fin cfg1.N) (k : Fin 128) (x : Fin 64) : blkA2 V c t (ix2 k x) = aW1 V c (ix2 k x) := by
  have hi := idx1_2 t
  refine congrArg (aW1 V c) (funext fun a => Fin.ext ?_)
  match a with
  | ⟨0, _⟩ => show win1_2.index t 0 * 128 + 1 * k.val = k.val; rw [hi.1]; omega
  | ⟨1, _⟩ => show win1_2.index t 1 * 64 + 1 * x.val = x.val; rw [hi.2]; omega

theorem bB0 (t : Fin cfg2.N) (x : Fin 256) (j : Fin 2000) (h : 256 * t.val + x.val < 2048) : blkB0 V c t (ix2 x j) = aH V c (ix2 ⟨256 * t.val + x.val, h⟩ j) := by
  have hi := idx2_0 t
  refine congrArg (aH V c) (funext fun a => Fin.ext ?_)
  match a with
  | ⟨0, _⟩ => show win2_0.index t 0 * 256 + 1 * x.val = 256 * t.val + x.val; rw [hi.1]; omega
  | ⟨1, _⟩ => show win2_0.index t 1 * 2000 + 1 * j.val = j.val; rw [hi.2]; omega

theorem bB1 (t : Fin cfg2.N) (x : Fin 2000) (k : Fin 192) : blkB1 V c t (ix2 x k) = aT1 V c (ix2 x k) := by
  have hi := idx2_1 t
  refine congrArg (aT1 V c) (funext fun a => Fin.ext ?_)
  match a with
  | ⟨0, _⟩ => show win2_1.index t 0 * 2000 + 1 * x.val = x.val; rw [hi.1]; omega
  | ⟨1, _⟩ => show win2_1.index t 1 * 192 + 1 * k.val = k.val; rw [hi.2]; omega

theorem bB2 (t : Fin cfg2.N) (x : Fin 64) (k : Fin 128) : blkB2 V c t (ix2 x k) = aW2 V c (ix2 x k) := by
  have hi := idx2_2 t
  refine congrArg (aW2 V c) (funext fun a => Fin.ext ?_)
  match a with
  | ⟨0, _⟩ => show win2_2.index t 0 * 64 + 1 * x.val = x.val; rw [hi.1]; omega
  | ⟨1, _⟩ => show win2_2.index t 1 * 128 + 1 * k.val = k.val; rw [hi.2]; omega

theorem bB3 (t : Fin cfg2.N) (k : Fin 128) : blkB3 V c t (ix2 0 k) = aB1 V c (ix2 0 k) := by
  have hi := idx2_3 t
  refine congrArg (aB1 V c) (funext fun a => Fin.ext ?_)
  match a with
  | ⟨0, _⟩ => show win2_3.index t 0 * 1 + 1 * 0 = 0; rw [hi.1]
  | ⟨1, _⟩ => show win2_3.index t 1 * 128 + 1 * k.val = k.val; rw [hi.2]; omega

theorem bD0 (t : Fin cfg3.N) (x : Fin 256) (j : Fin 2000) (h : 256 * t.val + x.val < 2048) : blkD0 V c t (ix2 x j) = aH V c (ix2 ⟨256 * t.val + x.val, h⟩ j) := by
  have hi := idx3_0 t
  refine congrArg (aH V c) (funext fun a => Fin.ext ?_)
  match a with
  | ⟨0, _⟩ => show win3_0.index t 0 * 256 + 1 * x.val = 256 * t.val + x.val; rw [hi.1]; omega
  | ⟨1, _⟩ => show win3_0.index t 1 * 2000 + 1 * j.val = j.val; rw [hi.2]; omega

theorem bD1 (t : Fin cfg3.N) (x : Fin 2000) (k : Fin 192) : blkD1 V c t (ix2 x k) = aT1 V c (ix2 x k) := by
  have hi := idx3_1 t
  refine congrArg (aT1 V c) (funext fun a => Fin.ext ?_)
  match a with
  | ⟨0, _⟩ => show win3_1.index t 0 * 2000 + 1 * x.val = x.val; rw [hi.1]; omega
  | ⟨1, _⟩ => show win3_1.index t 1 * 192 + 1 * k.val = k.val; rw [hi.2]; omega

theorem bD2 (t : Fin cfg3.N) (x : Fin 2000) (k : Fin 256) : blkD2 V c t (ix2 x k) = aT2 V c (ix2 x k) := by
  have hi := idx3_2 t
  refine congrArg (aT2 V c) (funext fun a => Fin.ext ?_)
  match a with
  | ⟨0, _⟩ => show win3_2.index t 0 * 2000 + 1 * x.val = x.val; rw [hi.1]; omega
  | ⟨1, _⟩ => show win3_2.index t 1 * 256 + 1 * k.val = k.val; rw [hi.2]; omega

theorem bD3 (t : Fin cfg3.N) (k : Fin 256) : blkD3 V c t (ix2 0 k) = aB2 V c (ix2 0 k) := by
  have hi := idx3_3 t
  refine congrArg (aB2 V c) (funext fun a => Fin.ext ?_)
  match a with
  | ⟨0, _⟩ => show win3_3.index t 0 * 1 + 1 * 0 = 0; rw [hi.1]
  | ⟨1, _⟩ => show win3_3.index t 1 * 256 + 1 * k.val = k.val; rw [hi.2]; omega

/-! ## The stages, given the counts -/

section Stages

variable (n e : Fin 320000 → ℕ)

/-- The array of counts, as stage input. -/
def Counts : Prop := ∀ (a : Fin 2048) (j : Fin 2000), (aH V c (ix2 a j) : EReal) = ((cnt n e a.val j.val : ℕ) : EReal)

/-- The columns that stage A sums: the two planes' features, and ones. -/
def colsA (k : Fin 192) (a : ℕ) : EReal :=
  if ha : a < 2048 then
    if h : k.val < 64 then ∑ i : Fin 128, aX V c (ix3 0 ⟨a, ha⟩ i) * aW1 V c (ix2 i ⟨k.val, h⟩)
    else if h : k.val - 64 < 64 then ∑ i : Fin 128, aX V c (ix3 1 ⟨a, ha⟩ i) * aW1 V c (ix2 i ⟨k.val - 64, h⟩) else 1
  else 0

variable {V c n e}

theorem accA_sum (hH : Counts V c n e) (j : Fin 2000) (k : Fin 192) (t : ℕ) (ht : t ≤ 8) :
    (accA V c t (ix2 j k) : EReal) = ∑ a ∈ Finset.range (256 * t), ((cnt n e a j.val : ℕ) : EReal) * colsA V c k a := by
  induction t with
  | zero => exact Ideal.ofBits_zero_f32
  | succ t ih =>
    have hN : cfg1.N = 8 := N_1
    have e0 : (if t = 0 then k1_pay1 (F := Ideal) else accA V c t) = accA V c t := by
      split
      · rename_i h; subst h; rfl
      · rfl
    have hs := accA_succ V c ⟨t, by omega⟩
    replace hs : accA V c (t + 1) = outA (t = 0) _ _ _ (accA V c t) := hs
    rw [hs]
    unfold outA
    rw [e0, payA, ih (by omega), Nat.mul_succ, Finset.sum_range_add, Finset.sum_range (n := 256)]
    refine congrArg (_ + ·) (Finset.sum_congr rfl fun x _ => ?_)
    have hx : 256 * t + x.val < 2048 := by omega
    unfold colsA
    rw [dif_pos hx]
    rw [bA0 V c ⟨t, by omega⟩ x j hx, hH]
    simp only [fun p i => bA1 V c ⟨t, by omega⟩ p x i hx, bA2]

theorem stageA (hH : Counts V c n e) (j : Fin 2000) (k : Fin 192) : (accA V c 8 (ix2 j k) : EReal) = wEdge n e 2048 (colsA V c k) j.val := by
  rw [accA_sum hH j k 8 le_rfl, Finset.sum_range]
  rfl

theorem ones (a : ℕ) (h : a < 2048) : colsA V c 128 a = 1 := by
  unfold colsA
  rw [dif_pos h, dif_neg (by decide), dif_neg (by decide)]

theorem stageA_deg (hH : Counts V c n e) (hn : ∀ k, n k < 2048) (j : Fin 2000) : (accA V c 8 (ix2 j 128) : EReal) = ((deg e j.val : ℕ) : EReal) := by
  rw [stageA hH, ← sum_cnt_one n e 2048 hn]
  refine Finset.sum_congr rfl fun a _ => ?_
  rw [ones a.val a.isLt]

theorem rows_deg (he : ∀ k, e k < 2000) (a : ℕ) : ∑ x : Fin 2000, ((cnt n e a x.val : ℕ) : EReal) = ((deg n a : ℕ) : EReal) := by
  rw [← sum_cnt_one e n 2000 he]
  refine Finset.sum_congr rfl fun x _ => ?_
  rw [mul_one, cnt_swap]

/-- The hidden features after stage A, given the columns `y` it summed. -/
def hid (V : Val Ideal) (c : Dev nD) (n e : Fin 320000 → ℕ) (y : Fin 192 → ℕ → EReal) (k : Fin 128) (a : ℕ) : EReal :=
  wNode n e 2000 2048 (y ⟨k.val, by omega⟩) a + aB1 V c (ix2 0 k)

/-- What stage A left, as stage input. -/
def Mid (V : Val Ideal) (c : Dev nD) (n e : Fin 320000 → ℕ) (y : Fin 192 → ℕ → EReal) : Prop :=
  (∀ (j : Fin 2000) (k : Fin 192), (aT1 V c (ix2 j k) : EReal) = wEdge n e 2048 (y k) j.val)
    ∧ ∀ j : Fin 2000, (aT1 V c (ix2 j 128) : EReal) = ((deg e j.val : ℕ) : EReal)

variable {y : Fin 192 → ℕ → EReal}

theorem hidden (hH : Counts V c n e) (hM : Mid V c n e y) (he : ∀ k, e k < 2000) (t : Fin cfg2.N) (x : Fin 256) (k : Fin 128) (hx : 256 * t.val + x.val < 2048) :
    (k2_pay4 (blkB0 V c t) (blkB1 V c t) (blkB3 V c t) (ix2 x k) : EReal) = hid V c n e y k (256 * t.val + x.val) := by
  rw [payC]
  simp only [fun j => bB0 V c t x j hx, bB1, bB3]
  simp only [fun j => hH ⟨256 * t.val + x.val, hx⟩ j, hM.2]
  simp only [hM.1, rows_deg he, inv_div]
  rfl

/-- The columns that stage B sums. -/
def colsB (V : Val Ideal) (c : Dev nD) (n e : Fin 320000 → ℕ) (y : Fin 192 → ℕ → EReal) (k : Fin 256) (a : ℕ) : EReal :=
  if h : k.val < 128 then ∑ i : Fin 64, hid V c n e y ⟨i.val, by omega⟩ a * aW2 V c (ix2 i ⟨k.val, h⟩)
  else ∑ i : Fin 64, hid V c n e y ⟨64 + i.val, by omega⟩ a * aW2 V c (ix2 i ⟨k.val - 128, by omega⟩)

theorem accB_sum (hH : Counts V c n e) (hM : Mid V c n e y) (he : ∀ k, e k < 2000) (j : Fin 2000) (k : Fin 256) (t : ℕ) (ht : t ≤ 8) :
    (accB V c t (ix2 j k) : EReal) = ∑ a ∈ Finset.range (256 * t), ((cnt n e a j.val : ℕ) : EReal) * colsB V c n e y k a := by
  induction t with
  | zero => exact Ideal.ofBits_zero_f32
  | succ t ih =>
    have hN : cfg2.N = 8 := N_2
    have e0 : (if t = 0 then k2_pay2 (F := Ideal) else accB V c t) = accB V c t := by
      split
      · rename_i h; subst h; rfl
      · rfl
    have hs := accB_succ V c ⟨t, by omega⟩
    replace hs : accB V c (t + 1) = outB (t = 0) _ _ _ _ (accB V c t) := hs
    rw [hs]
    unfold outB
    rw [e0, payB, ih (by omega), Nat.mul_succ, Finset.sum_range_add, Finset.sum_range (n := 256)]
    refine congrArg (_ + ·) (Finset.sum_congr rfl fun x _ => ?_)
    have hx : 256 * t + x.val < 2048 := by omega
    unfold colsB
    rw [bB0 V c ⟨t, by omega⟩ x j hx, hH]
    simp only [fun k => hidden hH hM he ⟨t, by omega⟩ x k hx, bB2]

theorem stageB (hH : Counts V c n e) (hM : Mid V c n e y) (he : ∀ k, e k < 2000) (j : Fin 2000) (k : Fin 256) :
    (accB V c 8 (ix2 j k) : EReal) = wEdge n e 2048 (colsB V c n e y k) j.val := by
  rw [accB_sum hH hM he j k 8 le_rfl, Finset.sum_range]
  rfl

theorem stageD {z : Fin 256 → ℕ → EReal} (hH : Counts V c n e) (hM : Mid V c n e y) (he : ∀ k, e k < 2000)
    (hZ : ∀ (j : Fin 2000) (k : Fin 256), (aT2 V c (ix2 j k) : EReal) = wEdge n e 2048 (z k) j.val) (a : Fin 2048) (k : Fin 256) :
    (outD V c (ix2 a k) : EReal) = wNode n e 2000 2048 (z k) a.val + aB2 V c (ix2 0 k) := by
  have hN : cfg3.N = 8 := N_3
  have ha := a.isLt
  have hs : outD V c (ix2 a k) = k3_pay1 (blkD0 V c ⟨a.val / 256, by omega⟩) (blkD1 V c ⟨a.val / 256, by omega⟩) (blkD2 V c ⟨a.val / 256, by omega⟩)
      (blkD3 V c ⟨a.val / 256, by omega⟩) (ix2 ⟨a.val % 256, Nat.mod_lt _ (by decide)⟩ k) := by
    unfold outD
    refine congrArg (k3_pay1 _ _ _ _) (funext fun i => ?_)
    match i with
    | 0 => rfl
    | 1 => rfl
  have hx : 256 * (a.val / 256) + a.val % 256 < 2048 := by omega
  have ea : (⟨256 * (a.val / 256) + a.val % 256, hx⟩ : Fin 2048) = a := Fin.ext (by show 256 * (a.val / 256) + a.val % 256 = a.val; omega)
  rw [hs, payD]
  simp only [fun j => bD0 V c ⟨a.val / 256, by omega⟩ ⟨a.val % 256, Nat.mod_lt _ (by decide)⟩ j hx, bD1, bD2, bD3, ea]
  simp only [fun j => hH a j, hM.2]
  simp only [hZ, rows_deg he, inv_div]
  rfl

end Stages

end Cert.Proof.KVal

end
-- ==== Proof.HVal.lean ====
/-  The value of the SparseCore call over the ideal values: entry `(r, c)` counts the pairs with ends `r` and `c`. -/
module

public import proofs.«01_k».proof.Proof.Sc
public import proofs.«01_k».proof.Proof.Math
public import Idealize.ShloMosaic.Lib.Pointwise
public import Idealize.ShloMosaic.Lib.IdealHost

@[expose] public section

noncomputable section

namespace Cert.Proof.HVal

open Cert.KernelIdeal Cert.KernelIdeal.Gen
open Idealize.ShloMosaic
open Cert.Proof.Sc

/-- A fold that adds one at position `p` for the list entries that hit it. -/
theorem storeIdx_sum {d : Fin 1 → ℕ} (f : Vec Ideal S128000 .f32) (ix : Fin 1 → IVec ⟨1, d⟩ 32) (v : Vec Ideal ⟨1, d⟩ .f32) (hv : ∀ x, v x = (1 : EReal)) (mask : IVec ⟨1, d⟩ 1)
    (h : ∀ a x, (ix a x).toNat < S128000.size a) (p : S128000.Idx) :
    (storeIdx f ix v mask true h : Vec Ideal S128000 .f32) p
      = (f p : EReal) + ∑ k : Fin (d 0), if mask (Shape.ofLane k) = 1 ∧ (ix 0 (Shape.ofLane k)).toNat = (p 0).val then (1 : EReal) else 0 := by
  rw [Fin.sum_univ_def]
  unfold storeIdx
  generalize List.finRange (d 0) = l
  induction l generalizing f with
  | nil => show (f p : EReal) = f p + 0; rw [add_zero]
  | cons k l ih =>
    rw [List.foldl_cons, ih, List.map_cons, List.sum_cons, ← add_assoc]
    refine congrArg (· + (List.map _ l).sum) ?_
    by_cases hm : mask (Shape.ofLane k) = 1
    · by_cases hp : (ix 0 (Shape.ofLane k)).toNat = (p 0).val
      · have e : idxAt ix h (Shape.ofLane k) = p := by
          funext a
          obtain rfl : a = 0 := Subsingleton.elim _ _
          exact Fin.ext hp
        refine Eq.trans (b := Elt.idxAdd (F := Ideal) EltTy.f32 (f p) (v (Shape.ofLane k))) ?_ ?_
        · rw [if_pos hm]
          refine (if_pos fun a => ?_).trans ?_
          · rw [e]
          · rw [if_pos rfl, e]
        · rw [hv]
          refine congrArg (f p + · : EReal → EReal) ?_
          exact (if_pos ⟨hm, hp⟩).symm
      · refine Eq.trans (b := f p) ?_ ?_
        · rw [if_pos hm]
          exact if_neg fun hc => hp (hc 0).symm
        · rw [if_neg fun hc => hp hc.2]
          exact (add_zero (f p : EReal)).symm
    · rw [if_neg hm, if_neg fun hc => hm hc.1]
      exact (add_zero (f p : EReal)).symm

/-- Entry `k` of a list of pairs' ends, as a number. -/
def nat (v : Vec Ideal S320000 .i32) (k : ℕ) : ℕ := @BitVec.toNat 32 (v (Shape.ofLane (d := ![320000]) ⟨k % 320000, Nat.mod_lt _ (by decide)⟩))

/-- The rows of a subcore start at `64` times its number. -/
def num (L : grid0.Coords) : ℕ := 2 * (L 1).val + (L 0).val

theorem num_coords (w : ℕ) (h : w < 32) : num (coordsOf w) = w := by
  show 2 * (w / 2 % 16) + w % 2 = w
  omega

theorem base_val (L : grid0.Coords) (a : Vec Ideal S16 .i32) (x : S16.Idx) :
    (k0_pay3 (F := Ideal) L a x).toNat = (@BitVec.toNat 32 (a x) + (2 ^ 32 - 64 * num L)) % 2 ^ 32 := by
  have h0 : (L 0).val < 2 := (L 0).isLt
  have h1 : (L 1).val < 16 := (L 1).isLt
  show ((a x : BitVec 32) - (BitVec.ofNat 32 (L 1).val * 2#32 + BitVec.ofNat 32 (L 0).val) * 64#32).toNat = _
  unfold num
  rw [BitVec.toNat_sub, BitVec.toNat_mul, BitVec.toNat_add, BitVec.toNat_mul, BitVec.toNat_ofNat, BitVec.toNat_ofNat, BitVec.toNat_ofNat, BitVec.toNat_ofNat]
  generalize @BitVec.toNat 32 (a x) = z
  omega

/-- A lane hits position `p` of the local table when its pair's ends are `p`'s row and column. -/
theorem hits (L : grid0.Coords) (n e : Vec Ideal S320000 .i32) (he : ColOK (F := Ideal) e) (t : ℕ) (x : S16.Idx) (p : ℕ) (hp : p < 128000) :
    (k0_pay4 (F := Ideal) L (lanes n t) x = 1 ∧ (k0_pay5 (F := Ideal) L (lanes n t) (lanes e t) x).toNat = p)
      ↔ nat n (16 * t + (x 0).val) = 64 * num L + p / 2000 ∧ nat e (16 * t + (x 0).val) = p % 2000 := by
  have h0 : (L 0).val < 2 := (L 0).isLt
  have h1 : (L 1).val < 16 := (L 1).isLt
  have hm := mask_iff (F := Ideal) L (lanes n t) x
  have hi := idx_val (F := Ideal) L (lanes n t) (lanes e t) (lanes_ok (F := Ideal) e he t) x
  have hb := lanes_ok (F := Ideal) e he t x
  have hv := base_val L (lanes n t) x
  have hn : num L < 32 := by unfold num; omega
  have en : @BitVec.toNat 32 (lanes (F := Ideal) n t x) = nat n (16 * t + (x 0).val) := rfl
  have ee : @BitVec.toNat 32 (lanes (F := Ideal) e t x) = nat e (16 * t + (x 0).val) := rfl
  have hz : @BitVec.toNat 32 (lanes (F := Ideal) n t x) < 2 ^ 32 := @BitVec.isLt 32 _
  rw [en] at hv hz
  rw [ee] at hi hb
  generalize nat n (16 * t + (x 0).val) = z at *
  generalize nat e (16 * t + (x 0).val) = y at *
  generalize num L = w at *
  constructor
  · rintro ⟨hc, hq⟩
    replace hc : k0_pay4 (F := Ideal) L (lanes n t) x = 1#1 := hc
    rw [hi, if_pos hc] at hq
    have := hm.1 hc
    omega
  · rintro ⟨hz', hy⟩
    have hc : k0_pay4 (F := Ideal) L (lanes n t) x = 1#1 := hm.2 (by omega)
    refine ⟨hc, ?_⟩
    rw [hi, if_pos hc]
    omega

theorem hAcc_sum (L : grid0.Coords) (n e : Vec Ideal S320000 .i32) (he : ColOK (F := Ideal) e) (p : S128000.Idx) (t : ℕ) :
    (hAcc (F := Ideal) L n e t p : EReal)
      = ∑ k ∈ Finset.range (16 * t), if nat n k = 64 * num L + (p 0).val / 2000 ∧ nat e k = (p 0).val % 2000 then (1 : EReal) else 0 := by
  induction t with
  | zero => exact Ideal.ofBits_zero_f32
  | succ t ih =>
    have hp : (p 0).val < 128000 := (p 0).isLt
    rw [Nat.mul_succ, Finset.sum_range_add, ← ih]
    have hs : hAcc (F := Ideal) L n e (t + 1) = grpStep (F := Ideal) L n e t (hAcc (F := Ideal) L n e t) := rfl
    rw [hs]
    unfold grpStep
    rw [dif_pos (chk_ok (F := Ideal) L (lanes n t) (lanes e t) (lanes_ok (F := Ideal) e he t))]
    refine (storeIdx_sum (d := ![16]) _ _ _ (fun _ => Ideal.ofBits_one_f32) _ _ p).trans ?_
    rw [Finset.sum_range (n := 16)]
    refine congrArg (_ + ·) (Finset.sum_congr rfl fun k _ => ?_)
    exact if_congr (hits L n e he t (Shape.ofLane (d := ![16]) k) _ hp) rfl rfl

/-- The pairs' ends as numbers. -/
def ends (v : Vec Ideal S320000 .i32) (k : Fin 320000) : ℕ := @BitVec.toNat 32 (v (ix1 k))

theorem nat_ends (v : Vec Ideal S320000 .i32) (k : Fin 320000) : nat v k.val = ends v k :=
  congrArg (fun j => @BitVec.toNat 32 (v j)) (idx_one (N := 320000) (ix1 k) _ (Nat.mod_eq_of_lt k.isLt).symm)

/-- Entry `(r, c)` of the counts. -/
theorem outH_apply (n e : Vec Ideal S320000 .i32) (he : ColOK (F := Ideal) e) (j : S4096000.Idx) (r c : ℕ) (hr : r < 2048) (hc : c < 2000)
    (hj : (j 0).val = 2000 * r + c) : (outH (F := Ideal) n e j : EReal) = ((Pairs.cnt (ends n) (ends e) r c : ℕ) : EReal) := by
  unfold outH
  rw [hAcc_sum _ n e he, num_coords _ (by omega)]
  show ∑ k ∈ Finset.range 320000, (if nat n k = 64 * ((j 0).val / 128000) + (j 0).val % 128000 / 2000 ∧ nat e k = (j 0).val % 128000 % 2000 then (1 : EReal) else 0) = _
  rw [Finset.sum_range, show 64 * ((j 0).val / 128000) + (j 0).val % 128000 / 2000 = r by omega, show (j 0).val % 128000 % 2000 = c by omega]
  simp only [nat_ends]
  rw [Finset.sum_boole]
  rfl

end Cert.Proof.HVal

end
-- ==== Proof.KTop.lean ====
/-  The kernel's result over the ideal values, read at an index. -/
module

public import proofs.«01_k».proof.Proof.Run
public import proofs.«01_k».proof.Proof.KVal
public import proofs.«01_k».proof.Proof.HVal

@[expose] public section

set_option maxRecDepth 16384

noncomputable section

namespace Cert.Proof.KTop

open Cert.KernelIdeal Cert.KernelIdeal.Gen
open Idealize.ShloMosaic Idealize.ShloMosaic.TcCoe
open Cert.Proof.Sc Cert.Proof.Body Cert.Proof.Region Cert.Proof.Pairs Cert.Proof.Run Cert.Proof.HVal Cert.Proof.KVal

variable (m : (ℓ : Loc nD τ sig) → Buf (Elt Ideal) ℓ) (d : Dev nD)

abbrev x0 : Vec Ideal S2x10000x128 .f32 := m ((SparseCore.T d).loc main_arg0)
abbrev x2 : Vec Ideal S128x64 .f32 := m ((SparseCore.T d).loc main_arg2)
abbrev x3 : Vec Ideal S64 .f32 := m ((SparseCore.T d).loc main_arg3)
abbrev x4 : Vec Ideal S64x128 .f32 := m ((SparseCore.T d).loc main_arg4)
abbrev x5 : Vec Ideal S128 .f32 := m ((SparseCore.T d).loc main_arg5)

/-! ## The arrays between the stages -/

theorem w2_arg0 : W2 m d (rf main_arg0) = x0 m d := by
  unfold W2 W1 ops1
  rw [Function.update_of_ne (StableHlo.devRef_ne_of_ne (by decide))]
  after_results_simp
  rfl
theorem w2_arg2 : W2 m d (rf main_arg2) = x2 m d := by
  unfold W2 W1 ops1
  rw [Function.update_of_ne (StableHlo.devRef_ne_of_ne (by decide))]
  after_results_simp
  rfl
theorem w2_arg3 : W2 m d (rf main_arg3) = x3 m d := by
  unfold W2 W1 ops1
  rw [Function.update_of_ne (StableHlo.devRef_ne_of_ne (by decide))]
  after_results_simp
  rfl
theorem w2_arg4 : W2 m d (rf main_arg4) = x4 m d := by
  unfold W2 W1 ops1
  rw [Function.update_of_ne (StableHlo.devRef_ne_of_ne (by decide))]
  after_results_simp
  rfl
theorem w2_arg5 : W2 m d (rf main_arg5) = x5 m d := by
  unfold W2 W1 ops1
  rw [Function.update_of_ne (StableHlo.devRef_ne_of_ne (by decide))]
  after_results_simp
  rfl
theorem w2_v4 : W2 m d (rf main_v4) = outH (F := Ideal) (nv m d) (ev m d) := Function.update_self _ _ _

theorem w3_v5 : W3 m d (rf main_v5) = shapeCast S2048x2000 (outH (F := Ideal) (nv m d) (ev m d)) shapeCasts_S4096000_S2048x2000 := by
  rw [← w2_v4]
  unfold W3 ops2
  after_results_simp
  rfl
theorem w3_v6 : W3 m d (rf main_v6) = extractStridedSlice S2x2048x128 ![0, 0, 0] (x0 m d) slices_S2x10000x128_S2x2048x128_0_0_0 := by
  rw [← w2_arg0]
  unfold W3 ops2
  after_results_simp
theorem w3_v8 : W3 m d (rf main_v8) = shapeCast S1x128 (concatenate S128 0 [⟨S64, x3 m d⟩, ⟨S64, x3 m d⟩] concatenates_S64_S64_S128_d0) shapeCasts_S128_S1x128 := by
  rw [← w2_arg3]
  unfold W3 ops2
  after_results_simp
  rfl
theorem w3_v10 : W3 m d (rf main_v10) = shapeCast S1x256 (concatenate S256 0 [⟨S128, x5 m d⟩, ⟨S128, x5 m d⟩] concatenates_S128_S128_S256_d0) shapeCasts_S256_S1x256 := by
  rw [← w2_arg5]
  unfold W3 ops2
  after_results_simp
  rfl
theorem w3_arg2 : W3 m d (rf main_arg2) = x2 m d := by
  rw [← w2_arg2]
  unfold W3 ops2
  after_results_simp
theorem w3_arg4 : W3 m d (rf main_arg4) = x4 m d := by
  rw [← w2_arg4]
  unfold W3 ops2
  after_results_simp
theorem w3_arg5 : W3 m d (rf main_arg5) = x5 m d := by
  rw [← w2_arg5]
  unfold W3 ops2
  after_results_simp

theorem w4_of (r : Ref sig .tc) (h : r ≠ main_v11) : W4 m d (rf r) = W3 m d (rf r) := Function.update_of_ne (StableHlo.devRef_ne_of_ne h) _ _
theorem w5_of (r : Ref sig .tc) (h : r ≠ main_v12) : W5 m d (rf r) = W4 m d (rf r) := Function.update_of_ne (StableHlo.devRef_ne_of_ne h) _ _
theorem w6_of (r : Ref sig .tc) (h : r ≠ main_v13) : W6 m d (rf r) = W5 m d (rf r) := Function.update_of_ne (StableHlo.devRef_ne_of_ne h) _ _

theorem w4_v11 : W4 m d (rf main_v11) = accA (toV (W3 m)) d 8 := Function.update_self _ _ _
theorem w5_v12 : W5 m d (rf main_v12) = accB (toV (W4 m)) d 8 := Function.update_self _ _ _
theorem w6_v13 : W6 m d (rf main_v13) = outD (toV (W5 m)) d := Function.update_self _ _ _

theorem cat_rows {a a' b b' : Vec Ideal S1x2048x128 .f32} (ha : a = a') (hb : b = b') :
    concatenate S2x2048x128 0 [⟨S1x2048x128, a⟩, ⟨S1x2048x128, b⟩] concatenates_S1x2048x128_S1x2048x128_S2x2048x128_d0
      = concatenate S2x2048x128 0 [⟨S1x2048x128, a'⟩, ⟨S1x2048x128, b'⟩] concatenates_S1x2048x128_S1x2048x128_S2x2048x128_d0 := by
  subst ha hb; rfl
theorem cat_all {a a' : Vec Ideal S2x2048x128 .f32} {b b' : Vec Ideal S2x7952x128 .f32} (ha : a = a') (hb : b = b') :
    concatenate S2x10000x128 1 [⟨S2x2048x128, a⟩, ⟨S2x7952x128, b⟩] concatenates_S2x2048x128_S2x7952x128_S2x10000x128_d1
      = concatenate S2x10000x128 1 [⟨S2x2048x128, a'⟩, ⟨S2x7952x128, b'⟩] concatenates_S2x2048x128_S2x7952x128_S2x10000x128_d1 := by
  subst ha hb; rfl

theorem w7_v20 : W7 m d (rf main_v20) = concatenate S2x10000x128 1 [⟨S2x2048x128, concatenate S2x2048x128 0
      [⟨S1x2048x128, broadcastInDim S1x2048x128 ![1, 2] bcast_S2048x128_S1x2048x128_1_2 (extractStridedSlice S2048x128 ![0, 0] (outD (toV (W5 m)) d) slices_S2048x256_S2048x128_0_0)⟩,
       ⟨S1x2048x128, broadcastInDim S1x2048x128 ![1, 2] bcast_S2048x128_S1x2048x128_1_2 (extractStridedSlice S2048x128 ![0, 128] (outD (toV (W5 m)) d) slices_S2048x256_S2048x128_0_128)⟩]
      concatenates_S1x2048x128_S1x2048x128_S2x2048x128_d0⟩,
      ⟨S2x7952x128, broadcastInDim S2x7952x128 ![2] bcast_S128_S2x7952x128_2 (x5 m d)⟩] concatenates_S2x2048x128_S2x7952x128_S2x10000x128_d1 := by
  have h5 : W6 m d (rf main_arg5) = x5 m d := by
    rw [w6_of m d _ (by decide), w5_of m d _ (by decide), w4_of m d _ (by decide), w3_arg5]
  rw [← w6_v13, ← h5]
  unfold W7 ops3
  after_results_simp
  refine cat_all ?_ ?_
  · after_results_simp
    refine cat_rows ?_ ?_
    · after_results_simp
    · after_results_simp
  · after_results_simp

/-! ## Read at an index -/

variable (hn : ColOK (F := Ideal) (nv m d)) (he : ColOK (F := Ideal) (ev m d))

abbrev nE : Fin 320000 → ℕ := ends (nv m d)
abbrev eE : Fin 320000 → ℕ := ends (ev m d)

include he in
theorem cast_counts (a : Fin 2048) (j : Fin 2000) :
    (shapeCast S2048x2000 (outH (F := Ideal) (nv m d) (ev m d)) shapeCasts_S4096000_S2048x2000 (ix2 a j) : EReal) = ((cnt (nE m d) (eE m d) a.val j.val : ℕ) : EReal) := by
  pointwise
  exact outH_apply _ _ he _ a.val j.val a.isLt j.isLt (by first | rfl | (show _ = _; simp; omega))

include he in
theorem counts3 : Counts (toV (W3 m)) d (nE m d) (eE m d) := fun a j => by
  refine Eq.trans ?_ (cast_counts m d he a j)
  exact congrFun (w3_v5 m d) _
include he in
theorem counts4 : Counts (toV (W4 m)) d (nE m d) (eE m d) := fun a j => by
  refine Eq.trans ?_ (counts3 m d he a j)
  exact congrFun (w4_of m d main_v5 (by decide)) _
include he in
theorem counts5 : Counts (toV (W5 m)) d (nE m d) (eE m d) := fun a j => by
  refine Eq.trans ?_ (counts4 m d he a j)
  exact congrFun (w5_of m d main_v5 (by decide)) _

theorem feats (p : Fin 2) (a : Fin 2048) (k : Fin 128) : aX (toV (W3 m)) d (ix3 p a k) = x0 m d (ix3 p ⟨a.val, by omega⟩ k) := by
  refine (congrFun (w3_v6 m d) _).trans ?_
  pointwise

theorem bias1 (k : Fin 128) : (aB1 (toV (W4 m)) d (ix2 0 k) : EReal) = x3 m d (ix1 ⟨k.val % 64, Nat.mod_lt _ (by decide)⟩) := by
  refine (congrFun ((w4_of m d main_v8 (by decide)).trans (w3_v8 m d)) _).trans ?_
  pointwise
  split
  · exact congrArg (x3 m d) (congrArg ix1 (Fin.ext (by show k.val = k.val % 64; omega)))
  · exact congrArg (x3 m d) (congrArg ix1 (Fin.ext (by show k.val - 64 = k.val % 64; omega)))

theorem bias2 (k : Fin 256) : (aB2 (toV (W5 m)) d (ix2 0 k) : EReal) = x5 m d (ix1 ⟨k.val % 128, Nat.mod_lt _ (by decide)⟩) := by
  refine (congrFun ((w5_of m d main_v10 (by decide)).trans ((w4_of m d main_v10 (by decide)).trans (w3_v10 m d))) _).trans ?_
  pointwise
  split
  · exact congrArg (x5 m d) (congrArg ix1 (Fin.ext (by show k.val = k.val % 128; omega)))
  · exact congrArg (x5 m d) (congrArg ix1 (Fin.ext (by show k.val - 128 = k.val % 128; omega)))

theorem top (p : Fin 2) (a : Fin 10000) (k : Fin 128) :
    (W7 m d (rf main_v20) : Vec Ideal S2x10000x128 .f32) (ix3 p a k)
      = if h : a.val < 2048 then outD (toV (W5 m)) d (ix2 ⟨a.val, h⟩ ⟨128 * p.val + k.val, by omega⟩) else x5 m d (ix1 k) := by
  rw [w7_v20]
  pointwise
  split
  · split
    · exact congrArg (outD (toV (W5 m)) d) (congrArg (ix2 _) (Fin.ext (by show k.val = 128 * p.val + k.val; omega)))
    · exact congrArg (outD (toV (W5 m)) d) (congrArg (ix2 _) (Fin.ext (by show 128 + k.val = 128 * p.val + k.val; omega)))
  · rfl

/-! ## The stages' results, from the arguments -/

/-- The columns of the first layer. -/
abbrev y1 (k : Fin 192) : ℕ → EReal := colsA (toV (W3 m)) d k

theorem lt_2048 {v : Vec Ideal S320000 .i32} (h : ColOK (F := Ideal) v) (k : Fin 320000) : ends v k < 2000 := h _

include hn he in
theorem mid4 : Mid (toV (W4 m)) d (nE m d) (eE m d) (y1 m d) := by
  have e : aT1 (toV (W4 m)) d = accA (toV (W3 m)) d 8 := w4_v11 m d
  refine ⟨fun j k => ?_, fun j => ?_⟩
  · rw [e]; exact stageA (counts3 m d he) j k
  · rw [e]; exact stageA_deg (counts3 m d he) (fun k => lt_trans (lt_2048 hn k) (by decide)) j
include hn he in
theorem mid5 : Mid (toV (W5 m)) d (nE m d) (eE m d) (y1 m d) := by
  have e : aT1 (toV (W5 m)) d = aT1 (toV (W4 m)) d := w5_of m d main_v11 (by decide)
  have h := mid4 m d hn he
  exact ⟨fun j k => by rw [e]; exact h.1 j k, fun j => by rw [e]; exact h.2 j⟩

/-- The columns of the second layer. -/
abbrev y2 (k : Fin 256) : ℕ → EReal := colsB (toV (W4 m)) d (nE m d) (eE m d) (y1 m d) k

include hn he in
/-- Entry `(p, a, k)` of the kernel's result. -/
theorem result (p : Fin 2) (a : Fin 10000) (k : Fin 128) :
    ((W7 m d (rf main_v20) : Vec Ideal S2x10000x128 .f32) (ix3 p a k) : EReal)
      = node (nE m d) (eE m d) (y2 m d ⟨128 * p.val + k.val, by omega⟩) a.val + x5 m d (ix1 k) := by
  rw [top]
  have e2 : aT2 (toV (W5 m)) d = accB (toV (W4 m)) d 8 := w5_v12 m d
  split
  · rename_i h
    have hb : (aB2 (toV (W5 m)) d (ix2 0 ⟨128 * p.val + k.val, by omega⟩) : EReal) = x5 m d (ix1 k) :=
      (bias2 m d _).trans (congrArg (fun q => x5 m d (ix1 q)) (Fin.ext (by show (128 * p.val + k.val) % 128 = k.val; omega)))
    have hz : ∀ (j : Fin 2000) (k : Fin 256), (aT2 (toV (W5 m)) d (ix2 j k) : EReal) = wEdge (nE m d) (eE m d) 2048 (y2 m d k) j.val := fun j k => by
      rw [e2]; exact stageB (counts4 m d he) (mid4 m d hn he) (fun k => lt_2048 he k) j k
    have hs := stageD (counts5 m d he) (mid5 m d hn he) (fun k => lt_2048 he k) hz ⟨a.val, h⟩ ⟨128 * p.val + k.val, by omega⟩
    rw [hs, hb, node_eq (nE m d) (eE m d) 2000 2048 (fun k => lt_trans (lt_2048 hn k) (by decide)) (fun k => lt_2048 he k)]
  · rename_i h
    rw [node_none _ _ _ _ fun q hq => h (by have := lt_2048 hn q; replace hq : ends (nv m d) q = a.val := hq; omega), zero_add]

/-! ## The columns, from the arguments -/

/-- The first layer's features times its weights: plane `p`, column `k`. -/
def g1 (p : Fin 2) (k : Fin 64) (a : ℕ) : EReal :=
  if h : a < 10000 then ∑ i : Fin 128, x0 m d (ix3 p ⟨a, h⟩ i) * x2 m d (ix2 i k) else 0

theorem y1_eq (p : Fin 2) (k : Fin 64) (a : ℕ) (ha : a < 2048) : y1 m d ⟨64 * p.val + k.val, by omega⟩ a = g1 m d p k a := by
  unfold y1 colsA g1
  have e2 : aW1 (toV (W3 m)) d = x2 m d := w3_arg2 m d
  rw [dif_pos ha, dif_pos (show a < 10000 by omega), e2]
  simp only [fun p i => feats m d p ⟨a, ha⟩ i]
  match p with
  | 0 =>
    rw [dif_pos (by show 64 * 0 + k.val < 64; omega)]
    refine Finset.sum_congr rfl fun i _ => congrArg (_ * ·) (congrArg (x2 m d) (congrArg (ix2 i) (Fin.ext ?_)))
    show 64 * 0 + k.val = k.val
    omega
  | 1 =>
    rw [dif_neg (by show ¬ 64 * 1 + k.val < 64; omega), dif_pos (by show 64 * 1 + k.val - 64 < 64; omega)]
    refine Finset.sum_congr rfl fun i _ => congrArg (_ * ·) (congrArg (x2 m d) (congrArg (ix2 i) (Fin.ext ?_)))
    show 64 * 1 + k.val - 64 = k.val
    omega

/-- The hidden features of plane `p`, column `k`. -/
def h1 (p : Fin 2) (k : Fin 64) (a : ℕ) : EReal := node (nE m d) (eE m d) (g1 m d p k) a + x3 m d (ix1 k)

/-- The second layer's features times its weights. -/
def g2 (p : Fin 2) (k : Fin 128) (a : ℕ) : EReal := ∑ i : Fin 64, h1 m d p i a * x4 m d (ix2 i k)

include hn he in
theorem hid_eq (p : Fin 2) (k : Fin 64) (a : ℕ) : hid (toV (W4 m)) d (nE m d) (eE m d) (y1 m d) ⟨64 * p.val + k.val, by omega⟩ a = h1 m d p k a := by
  unfold hid h1
  rw [← node_eq (nE m d) (eE m d) 2000 2048 (fun k => lt_trans (lt_2048 hn k) (by decide)) (fun k => lt_2048 he k), bias1,
    node_congr (nE m d) (eE m d) _ (g1 m d p k) fun q => y1_eq m d p k _ (lt_trans (lt_2048 hn q) (by decide))]
  refine congrArg (_ + ·) (congrArg (x3 m d) (congrArg ix1 (Fin.ext ?_)))
  show (64 * p.val + k.val) % 64 = k.val
  omega

include hn he in
theorem y2_eq (p : Fin 2) (k : Fin 128) (a : ℕ) : y2 m d ⟨128 * p.val + k.val, by omega⟩ a = g2 m d p k a := by
  unfold y2 colsB g2
  have e4 : aW2 (toV (W4 m)) d = x4 m d := (w4_of m d main_arg4 (by decide)).trans (w3_arg4 m d)
  rw [e4]
  match p with
  | 0 =>
    rw [dif_pos (by show 128 * 0 + k.val < 128; omega)]
    refine Finset.sum_congr rfl fun i _ => congrArg₂ (· * ·) ?_ (congrArg (x4 m d) (congrArg (ix2 i) (Fin.ext ?_)))
    · rw [← hid_eq m d hn he]
      exact congrArg (fun q => hid (toV (W4 m)) d (nE m d) (eE m d) (y1 m d) q a) (Fin.ext (by show i.val = 64 * 0 + i.val; omega))
    · show 128 * 0 + k.val = k.val
      omega
  | 1 =>
    rw [dif_neg (by show ¬ 128 * 1 + k.val < 128; omega)]
    refine Finset.sum_congr rfl fun i _ => congrArg₂ (· * ·) ?_ (congrArg (x4 m d) (congrArg (ix2 i) (Fin.ext ?_)))
    · rw [← hid_eq m d hn he]
      exact congrArg (fun q => hid (toV (W4 m)) d (nE m d) (eE m d) (y1 m d) q a) (Fin.ext (by show 64 + i.val = 64 * 1 + i.val; omega))
    · show 128 * 1 + k.val - 128 = k.val
      omega

include hn he in
/-- The kernel's result is the two hypergraph convolutions. -/
theorem value (p : Fin 2) (a : Fin 10000) (k : Fin 128) :
    ((W7 m d (rf main_v20) : Vec Ideal S2x10000x128 .f32) (ix3 p a k) : EReal) = node (nE m d) (eE m d) (g2 m d p k) a.val + x5 m d (ix1 k) := by
  rw [result m d hn he, node_congr (nE m d) (eE m d) _ (g2 m d p k) fun q => y2_eq m d hn he p k _]

end Cert.Proof.KTop

end
-- ==== Proof.RefOps.lean ====
/-  The reference's scatter-adds and gathers over the ideal values, read at an index. -/
module

public import proofs.«01_k».proof.Proof.Gen.ReferenceIdeal
public import Idealize.ShloMosaic.Lib.ValueIdx
public import Idealize.ShloMosaic.Lib.Pointwise

@[expose] public section

noncomputable section

namespace Cert.Proof.RefOps

open Idealize.ShloMosaic

variable {α : Type} {N C n : ℕ}

/-- A scatter of scalars into a vector by one column of positions. -/
abbrev scat1 (N n : ℕ) (wf : ScatterDims.WF ⟨1, ![N]⟩ ⟨2, ![n, 1]⟩ ⟨1, ![n]⟩ [] [0] [0] 1) : ScatterDims ⟨1, ![N]⟩ ⟨2, ![n, 1]⟩ ⟨1, ![n]⟩ where
  updateWindowDims := []
  insertedWindowDims := [0]
  scatterDimsToOperandDims := [0]
  indexVectorDim := 1
  wf := wf

/-- A scatter of `[2, C]` planes into a stack of them by one column of positions. -/
abbrev scat3 (N C n : ℕ) (wf : ScatterDims.WF ⟨3, ![N, 2, C]⟩ ⟨2, ![n, 1]⟩ ⟨3, ![n, 2, C]⟩ [1, 2] [0] [0] 1) :
    ScatterDims ⟨3, ![N, 2, C]⟩ ⟨2, ![n, 1]⟩ ⟨3, ![n, 2, C]⟩ where
  updateWindowDims := [1, 2]
  insertedWindowDims := [0]
  scatterDimsToOperandDims := [0]
  indexVectorDim := 1
  wf := wf

theorem scat1_lands (wf) (idx : IVec ⟨2, ![n, 1]⟩ 32) (k : Fin n) (i : Fin N) :
    (scat1 N n wf).resultIdx? (ix1 k) idx = some (ix1 i) ↔ (idx (ix2 k (0 : Fin 1))).toInt = i.val := by
  have hs : (scat1 N n wf).start (ix1 k) idx 0 = (idx (ix2 k (0 : Fin 1))).toInt := by
    unfold ScatterDims.start
    rw [dif_pos (show (0 : Fin 1) ∈ (scat1 N n wf).scatterDimsToOperandDims from List.mem_singleton.mpr rfl)]
    refine congrArg (fun x => (idx x).toInt) (funext fun b => Fin.ext ?_)
    match b with
    | ⟨0, _⟩ => rfl
    | ⟨1, _⟩ => rfl
  have hw : (scat1 N n wf).window (ix1 k) 0 = 0 := by
    unfold ScatterDims.window
    rw [dif_neg]
    intro h
    exact absurd h (of_decide_eq_false rfl)
  have hi := i.isLt
  unfold ScatterDims.resultIdx?
  constructor
  · intro h
    split at h
    · rename_i hh
      have e := congrFun (Option.some.inj h) 0
      have e' := congrArg Fin.val e
      have h0 := hh 0
      rw [hs, hw] at h0
      replace e' : ((scat1 N n wf).start (ix1 k) idx 0 + (scat1 N n wf).window (ix1 k) 0).toNat = i.val := e'
      rw [hs, hw] at e'
      omega
    · exact absurd h (by simp)
  · intro h
    have hall : ∀ a : Fin 1, 0 ≤ (scat1 N n wf).start (ix1 k) idx a + (scat1 N n wf).window (ix1 k) a
        ∧ (scat1 N n wf).start (ix1 k) idx a + (scat1 N n wf).window (ix1 k) a < (![N] a : ℕ) := by
      intro a
      obtain rfl : a = 0 := Subsingleton.elim _ _
      rw [hs, hw, h]
      refine ⟨by omega, ?_⟩
      show _ < (N : ℤ)
      omega
    rw [dif_pos hall]
    refine congrArg some (funext fun a => Fin.ext ?_)
    match a with
    | ⟨0, _⟩ =>
      show ((scat1 N n wf).start (ix1 k) idx 0 + (scat1 N n wf).window (ix1 k) 0).toNat = i.val
      rw [hs, hw, h]; omega

theorem scat3_lands (wf) (idx : IVec ⟨2, ![n, 1]⟩ 32) (k : Fin n) (b : Fin 2) (c : Fin C) (i : Fin N) (b' : Fin 2) (c' : Fin C) :
    (scat3 N C n wf).resultIdx? (ix3 k b c) idx = some (ix3 i b' c') ↔ (idx (ix2 k (0 : Fin 1))).toInt = i.val ∧ b = b' ∧ c = c' := by
  have hs : (scat3 N C n wf).start (ix3 k b c) idx 0 = (idx (ix2 k (0 : Fin 1))).toInt := by
    unfold ScatterDims.start
    rw [dif_pos (show (0 : Fin 3) ∈ (scat3 N C n wf).scatterDimsToOperandDims from List.mem_singleton.mpr rfl)]
    refine congrArg (fun x => (idx x).toInt) (funext fun b => Fin.ext ?_)
    match b with
    | ⟨0, _⟩ => rfl
    | ⟨1, _⟩ => rfl
  have hs1 : (scat3 N C n wf).start (ix3 k b c) idx 1 = 0 := by
    unfold ScatterDims.start; rw [dif_neg (of_decide_eq_false rfl)]
  have hs2 : (scat3 N C n wf).start (ix3 k b c) idx 2 = 0 := by
    unfold ScatterDims.start; rw [dif_neg (of_decide_eq_false rfl)]
  have hw : (scat3 N C n wf).window (ix3 k b c) 0 = 0 := by
    unfold ScatterDims.window; rw [dif_neg (of_decide_eq_false rfl)]
  have hw1 : (scat3 N C n wf).window (ix3 k b c) 1 = b.val := by
    unfold ScatterDims.window; rw [dif_pos (of_decide_eq_true rfl)]; rfl
  have hw2 : (scat3 N C n wf).window (ix3 k b c) 2 = c.val := by
    unfold ScatterDims.window; rw [dif_pos (of_decide_eq_true rfl)]; rfl
  have hi := i.isLt
  have hb := b.isLt
  have hc := c.isLt
  unfold ScatterDims.resultIdx?
  constructor
  · intro h
    split at h
    · rename_i hh
      have e := Option.some.inj h
      have e0 : ((scat3 N C n wf).start (ix3 k b c) idx 0 + (scat3 N C n wf).window (ix3 k b c) 0).toNat = i.val := congrArg Fin.val (congrFun e 0)
      have e1 : ((scat3 N C n wf).start (ix3 k b c) idx 1 + (scat3 N C n wf).window (ix3 k b c) 1).toNat = b'.val := congrArg Fin.val (congrFun e 1)
      have e2 : ((scat3 N C n wf).start (ix3 k b c) idx 2 + (scat3 N C n wf).window (ix3 k b c) 2).toNat = c'.val := congrArg Fin.val (congrFun e 2)
      have h0 := hh 0
      rw [hs, hw] at h0 e0
      rw [hs1, hw1] at e1
      rw [hs2, hw2] at e2
      exact ⟨by omega, Fin.ext (by omega), Fin.ext (by omega)⟩
    · exact absurd h (by simp)
  · rintro ⟨h, rfl, rfl⟩
    have hall : ∀ a : Fin 3, 0 ≤ (scat3 N C n wf).start (ix3 k b c) idx a + (scat3 N C n wf).window (ix3 k b c) a
        ∧ (scat3 N C n wf).start (ix3 k b c) idx a + (scat3 N C n wf).window (ix3 k b c) a < (![N, 2, C] a : ℕ) := by
      intro a
      match a with
      | ⟨0, _⟩ =>
        show 0 ≤ (scat3 N C n wf).start (ix3 k b c) idx 0 + (scat3 N C n wf).window (ix3 k b c) 0 ∧ (scat3 N C n wf).start (ix3 k b c) idx 0 + (scat3 N C n wf).window (ix3 k b c) 0 < (N : ℤ)
        rw [hs, hw, h]; omega
      | ⟨1, _⟩ =>
        show 0 ≤ (scat3 N C n wf).start (ix3 k b c) idx 1 + (scat3 N C n wf).window (ix3 k b c) 1 ∧ (scat3 N C n wf).start (ix3 k b c) idx 1 + (scat3 N C n wf).window (ix3 k b c) 1 < ((2 : ℕ) : ℤ)
        rw [hs1, hw1]; omega
      | ⟨2, _⟩ =>
        show 0 ≤ (scat3 N C n wf).start (ix3 k b c) idx 2 + (scat3 N C n wf).window (ix3 k b c) 2 ∧ (scat3 N C n wf).start (ix3 k b c) idx 2 + (scat3 N C n wf).window (ix3 k b c) 2 < (C : ℤ)
        rw [hs2, hw2]; omega
    rw [dif_pos hall]
    refine congrArg some (funext fun a => Fin.ext ?_)
    match a with
    | ⟨0, _⟩ =>
      show ((scat3 N C n wf).start (ix3 k b c) idx 0 + (scat3 N C n wf).window (ix3 k b c) 0).toNat = i.val
      rw [hs, hw, h]; omega
    | ⟨1, _⟩ =>
      show ((scat3 N C n wf).start (ix3 k b c) idx 1 + (scat3 N C n wf).window (ix3 k b c) 1).toNat = b.val
      rw [hs1, hw1]; omega
    | ⟨2, _⟩ =>
      show ((scat3 N C n wf).start (ix3 k b c) idx 2 + (scat3 N C n wf).window (ix3 k b c) 2).toNat = c.val
      rw [hs2, hw2]; omega

/-- The scatter-add of scalars at entry `i`: the entry plus the updates whose position is `i`. -/
theorem scat1_apply (wf) (x : FVec Ideal ⟨1, ![N]⟩ .f32) (idx : IVec ⟨2, ![n, 1]⟩ 32) (u : FVec Ideal ⟨1, ![n]⟩ .f32)
    (p : Fin n → ℕ) (hp : ∀ k, (idx (ix2 k (0 : Fin 1))).toInt = p k) (i : Fin N) :
    Host.scatterAdd (scat1 N n wf) x idx u (ix1 i) = x (ix1 i) + ∑ k ∈ Finset.univ.filter (fun k => p k = i.val), u (ix1 k) := by
  show x (ix1 i) + ∑ j ∈ Finset.univ.filter (fun j => (scat1 N n wf).resultIdx? j idx = some (ix1 i)), u j = _
  refine congrArg (x (ix1 i) + ·) (Finset.sum_bij' (i := fun j _ => (j 0 : Fin n)) (j := fun k _ => ix1 k) ?_ ?_ ?_ ?_ ?_)
  · intro j hj
    obtain ⟨k, rfl⟩ : ∃ k : Fin n, j = ix1 k := ⟨_, eq_ix1 j⟩
    have h := (scat1_lands wf idx k i).1 (Finset.mem_filter.1 hj).2
    rw [hp] at h
    exact Finset.mem_filter.2 ⟨Finset.mem_univ _, by exact_mod_cast h⟩
  · intro k hk
    refine Finset.mem_filter.2 ⟨Finset.mem_univ _, (scat1_lands wf idx k i).2 ?_⟩
    rw [hp, (Finset.mem_filter.1 hk).2]
  · intro j _
    exact (eq_ix1 j).symm
  · intro k _; rfl
  · intro j _
    exact congrArg u (eq_ix1 j)

/-- The scatter-add of planes at an entry of plane `i`. -/
theorem scat3_apply (wf) (x : FVec Ideal ⟨3, ![N, 2, C]⟩ .f32) (idx : IVec ⟨2, ![n, 1]⟩ 32) (u : FVec Ideal ⟨3, ![n, 2, C]⟩ .f32)
    (p : Fin n → ℕ) (hp : ∀ k, (idx (ix2 k (0 : Fin 1))).toInt = p k) (i : Fin N) (b : Fin 2) (c : Fin C) :
    Host.scatterAdd (scat3 N C n wf) x idx u (ix3 i b c) = x (ix3 i b c) + ∑ k ∈ Finset.univ.filter (fun k => p k = i.val), u (ix3 k b c) := by
  show x (ix3 i b c) + ∑ j ∈ Finset.univ.filter (fun j => (scat3 N C n wf).resultIdx? j idx = some (ix3 i b c)), u j = _
  have key : ∀ j, (scat3 N C n wf).resultIdx? j idx = some (ix3 i b c) → p (j 0) = i.val ∧ j = ix3 (j 0) b c := by
    intro j hj
    obtain ⟨k, b', c', rfl⟩ : ∃ (k : Fin n) (b' : Fin 2) (c' : Fin C), j = ix3 k b' c' := ⟨_, _, _, eq_ix3 j⟩
    obtain ⟨h, rfl, rfl⟩ := (scat3_lands wf idx k b' c' i b c).1 hj
    rw [hp] at h
    exact ⟨by exact_mod_cast h, rfl⟩
  refine congrArg (x (ix3 i b c) + ·) (Finset.sum_bij' (i := fun j _ => (j 0 : Fin n)) (j := fun k _ => ix3 k b c) ?_ ?_ ?_ ?_ ?_)
  · intro j hj
    exact Finset.mem_filter.2 ⟨Finset.mem_univ _, (key j (Finset.mem_filter.1 hj).2).1⟩
  · intro k hk
    refine Finset.mem_filter.2 ⟨Finset.mem_univ _, (scat3_lands wf idx k b c i b c).2 ⟨?_, rfl, rfl⟩⟩
    rw [hp, (Finset.mem_filter.1 hk).2]
  · intro j hj
    exact (key j (Finset.mem_filter.1 hj).2).2.symm
  · intro k _; rfl
  · intro j hj
    exact congrArg u (key j (Finset.mem_filter.1 hj).2).2

/-- The take of scalars from a vector. -/
abbrev gath1 (N n : ℕ) (wf : GatherDims.WF ⟨1, ![N]⟩ ⟨2, ![n, 1]⟩ ⟨1, ![n]⟩ [] [0] [] [0] [] 1 ![1]) : GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- The take of planes from a stack. -/
abbrev gath3 (N C n : ℕ) (wf : GatherDims.WF ⟨3, ![N, 2, C]⟩ ⟨2, ![n, 1]⟩ ⟨3, ![n, 2, C]⟩ [1, 2] [0] [] [0] [] 1 ![1, 2, C]) :
    GatherDims ⟨3, ![N, 2, C]⟩ ⟨2, ![n, 1]⟩ ⟨3, ![n, 2, C]⟩ where
  offsetDims := [1, 2]
  collapsedSliceDims := [0]
  operandBatchingDims := []
  startIndicesBatchingDims := []
  startIndexMap := [0]
  indexVectorDim := 1
  sliceSizes := ![1, 2, C]
  wf := wf

theorem gath1_apply (wf) (x : (⟨1, ![N]⟩ : Shape).Idx → α) (idx : IVec ⟨2, ![n, 1]⟩ 32) (k : Fin n) (i : Fin N) (h : (idx (ix2 k (0 : Fin 1))).toInt = i.val) :
    Host.gather (gath1 N n wf) x idx (ix1 k) = x (ix1 i) := by
  unfold Host.gather
  refine congrArg x (funext fun a => Fin.ext ?_)
  obtain rfl : a = 0 := Subsingleton.elim _ _
  show (gath1 N n wf).start (ix1 k) idx 0 + (gath1 N n wf).batchCoord (ix1 k) 0 + (gath1 N n wf).offCoord (ix1 k) 0 = i.val
  rw [GatherDims.batchCoord_eq_zero _ _ _ List.not_mem_nil, GatherDims.offCoord_eq_zero _ _ _ (of_decide_eq_false rfl)]
  unfold GatherDims.start
  rw [dif_pos (show (0 : Fin 1) ∈ (gath1 N n wf).startIndexMap from List.mem_singleton.mpr rfl)]
  have hsi : (gath1 N n wf).siIdx (ix1 k) ⟨List.idxOf (0 : Fin 1) (gath1 N n wf).startIndexMap,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi, h]
  show min (i.val : ℤ).toNat (N - 1) + 0 + 0 = i.val
  have := i.isLt
  omega

theorem gath3_apply (wf) (x : (⟨3, ![N, 2, C]⟩ : Shape).Idx → α) (idx : IVec ⟨2, ![n, 1]⟩ 32) (k : Fin n) (b : Fin 2) (c : Fin C) (i : Fin N)
    (h : (idx (ix2 k (0 : Fin 1))).toInt = i.val) : Host.gather (gath3 N C n wf) x idx (ix3 k b c) = x (ix3 i b c) := by
  unfold Host.gather
  refine congrArg x (funext fun a => Fin.ext ?_)
  show (gath3 N C n wf).start (ix3 k b c) idx a + (gath3 N C n wf).batchCoord (ix3 k b c) a + (gath3 N C n wf).offCoord (ix3 k b c) a = _
  rw [GatherDims.batchCoord_eq_zero _ _ _ List.not_mem_nil]
  match a with
  | ⟨0, _⟩ =>
    show (gath3 N C n wf).start (ix3 k b c) idx 0 + 0 + (gath3 N C n wf).offCoord (ix3 k b c) 0 = i.val
    rw [GatherDims.offCoord_eq_zero _ _ _ (of_decide_eq_false rfl)]
    unfold GatherDims.start
    rw [dif_pos (show (0 : Fin 3) ∈ (gath3 N C n wf).startIndexMap from List.mem_singleton.mpr rfl)]
    have hsi : (gath3 N C n wf).siIdx (ix3 k b c) ⟨List.idxOf (0 : Fin 3) (gath3 N C n wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi, h]
    show min (i.val : ℤ).toNat (N - 1) + 0 + 0 = i.val
    have := i.isLt
    omega
  | ⟨1, _⟩ =>
    show (gath3 N C n wf).start (ix3 k b c) idx 1 + 0 + (gath3 N C n wf).offCoord (ix3 k b c) 1 = b.val
    have e1 : (gath3 N C n wf).start (ix3 k b c) idx 1 = 0 := by unfold GatherDims.start; rw [dif_neg (of_decide_eq_false rfl)]
    have e2 : (gath3 N C n wf).offCoord (ix3 k b c) 1 = b.val := by unfold GatherDims.offCoord; rw [dif_pos (of_decide_eq_true rfl)]; rfl
    rw [e1, e2]; omega
  | ⟨2, _⟩ =>
    show (gath3 N C n wf).start (ix3 k b c) idx 2 + 0 + (gath3 N C n wf).offCoord (ix3 k b c) 2 = c.val
    have e1 : (gath3 N C n wf).start (ix3 k b c) idx 2 = 0 := by unfold GatherDims.start; rw [dif_neg (of_decide_eq_false rfl)]
    have e2 : (gath3 N C n wf).offCoord (ix3 k b c) 2 = c.val := by unfold GatherDims.offCoord; rw [dif_pos (of_decide_eq_true rfl)]; rfl
    rw [e1, e2]; omega

end Cert.Proof.RefOps

end
-- ==== Proof.RefVal.lean ====
/-  The reference's result over the ideal values, read at an index. -/
module

public import proofs.«01_k».proof.Proof.Gen.ReferenceIdeal.Run
public import proofs.«01_k».proof.Proof.RefOps
public import proofs.«01_k».proof.Proof.Math
public import Idealize.ShloMosaic.Lib.Pointwise
public import Idealize.ShloMosaic.Lib.IdealHost

@[expose] public section

set_option maxRecDepth 16384

noncomputable section

namespace Cert.Proof.RefVal

open Cert.ReferenceIdeal Cert.ReferenceIdeal.Gen Cert.ReferenceIdeal.Value
open Idealize.ShloMosaic Idealize.ShloMosaic.TcCoe
open Cert.Proof.RefOps Cert.Proof.Pairs

/-! ## The reference in stages -/

abbrev Ints : Type := IVec S320000 32

def row0 (h : Vec Ideal S2x320000 .i32) : Ints := shapeCast S320000 (extractStridedSlice S1x320000 ![0, 0] h slices_S2x320000_S1x320000_0_0) shapeCasts_S1x320000_S320000
def row1 (h : Vec Ideal S2x320000 .i32) : Ints := shapeCast S320000 (extractStridedSlice S1x320000 ![1, 0] h slices_S2x320000_S1x320000_1_0) shapeCasts_S1x320000_S320000

def col (v : Ints) : IVec S320000x1 32 := broadcastInDim S320000x1 ![0] bcast_S320000_S320000x1_0 v

/-- The positions, a negative one counted from the end. -/
def wrap (b : BitVec 32) (v : Ints) : IVec S320000x1 32 :=
  col (select (cmpi .slt v (broadcastInDim S320000 ![] bcast_S_S320000 (constantI S_ 32 0#32))) (addi v (broadcastInDim S320000 ![] bcast_S_S320000 (constantI S_ 32 b))) v)

def ones : FVec Ideal S320000 .f32 := broadcastInDim S320000 ![] bcast_S_S320000 (constant S_ .f32 0x3F800000#32)

def degN (v : Ints) : FVec Ideal S10000 .f32 :=
  Host.scatterAdd scatter_S10000_S320000x1_S320000_n_0_0_1 (broadcastInDim S10000 ![] bcast_S_S10000 (constant S_ .f32 0x00000000#32)) (col v) ones
def degE (v : Ints) : FVec Ideal S2000 .f32 :=
  Host.scatterAdd scatter_S2000_S320000x1_S320000_n_0_0_1 (broadcastInDim S2000 ![] bcast_S_S2000 (constant S_ .f32 0x00000000#32)) (col v) ones

def invN (v : Ints) : FVec Ideal S10000 .f32 :=
  select (cmpf .ogt (degN v) (broadcastInDim S10000 ![] bcast_S_S10000 (constant S_ .f32 0x00000000#32)))
    (Host.divf (broadcastInDim S10000 ![] bcast_S_S10000 (constant S_ .f32 0x3F800000#32)) (degN v)) (broadcastInDim S10000 ![] bcast_S_S10000 (id (constant S_ .f32 0x00000000#32)))
def invE (v : Ints) : FVec Ideal S2000 .f32 :=
  select (cmpf .ogt (degE v) (broadcastInDim S2000 ![] bcast_S_S2000 (constant S_ .f32 0x00000000#32)))
    (Host.divf (broadcastInDim S2000 ![] bcast_S_S2000 (constant S_ .f32 0x3F800000#32)) (degE v)) (broadcastInDim S2000 ![] bcast_S_S2000 (id (constant S_ .f32 0x00000000#32)))

def takeN (v : Ints) : FVec Ideal S320000 .f32 := Host.gather gather_S10000_S320000x1_S320000_n_0_n_n_0_1_1 (invN v) (wrap 10000#32 v)
def takeE (v : Ints) : FVec Ideal S320000 .f32 := Host.gather gather_S2000_S320000x1_S320000_n_0_n_n_0_1_1 (invE v) (wrap 2000#32 v)

/-! The convolution on 64 columns. -/

def scale64 (w : FVec Ideal S320000 .f32) (x : FVec Ideal S320000x2x64 .f32) : FVec Ideal S320000x2x64 .f32 :=
  mulf (broadcastInDim S320000x2x64 ![0, 1, 2] bcast_S320000x1x1_S320000x2x64_0_1_2 (broadcastInDim S320000x1x1 ![0] bcast_S320000_S320000x1x1_0 w)) x
def fromN64 (n : Ints) (x : FVec Ideal S10000x2x64 .f32) : FVec Ideal S320000x2x64 .f32 := Host.gather gather_S10000x2x64_S320000x1_S320000x2x64_12_0_n_n_0_1_1264 x (wrap 10000#32 n)
def toE64 (e : Ints) (u : FVec Ideal S320000x2x64 .f32) : FVec Ideal S2000x2x64 .f32 :=
  Host.scatterAdd scatter_S2000x2x64_S320000x1_S320000x2x64_12_0_0_1 (broadcastInDim S2000x2x64 ![] bcast_S_S2000x2x64 (constant S_ .f32 0x00000000#32)) (col e) u
def fromE64 (e : Ints) (x : FVec Ideal S2000x2x64 .f32) : FVec Ideal S320000x2x64 .f32 := Host.gather gather_S2000x2x64_S320000x1_S320000x2x64_12_0_n_n_0_1_1264 x (wrap 2000#32 e)
def toN64 (n : Ints) (u : FVec Ideal S320000x2x64 .f32) : FVec Ideal S10000x2x64 .f32 :=
  Host.scatterAdd scatter_S10000x2x64_S320000x1_S320000x2x64_12_0_0_1 (broadcastInDim S10000x2x64 ![] bcast_S_S10000x2x64 (constant S_ .f32 0x00000000#32)) (col n) u
def conv64 (n e : Ints) (x : FVec Ideal S10000x2x64 .f32) : FVec Ideal S10000x2x64 .f32 :=
  toN64 n (scale64 (takeN n) (fromE64 e (toE64 e (scale64 (takeE e) (fromN64 n x)))))

/-! The convolution on 128 columns. -/

def scale128 (w : FVec Ideal S320000 .f32) (x : FVec Ideal S320000x2x128 .f32) : FVec Ideal S320000x2x128 .f32 :=
  mulf (broadcastInDim S320000x2x128 ![0, 1, 2] bcast_S320000x1x1_S320000x2x128_0_1_2 (broadcastInDim S320000x1x1 ![0] bcast_S320000_S320000x1x1_0 w)) x
def fromN128 (n : Ints) (x : FVec Ideal S10000x2x128 .f32) : FVec Ideal S320000x2x128 .f32 := Host.gather gather_S10000x2x128_S320000x1_S320000x2x128_12_0_n_n_0_1_12128 x (wrap 10000#32 n)
def toE128 (e : Ints) (u : FVec Ideal S320000x2x128 .f32) : FVec Ideal S2000x2x128 .f32 :=
  Host.scatterAdd scatter_S2000x2x128_S320000x1_S320000x2x128_12_0_0_1 (broadcastInDim S2000x2x128 ![] bcast_S_S2000x2x128 (constant S_ .f32 0x00000000#32)) (col e) u
def fromE128 (e : Ints) (x : FVec Ideal S2000x2x128 .f32) : FVec Ideal S320000x2x128 .f32 := Host.gather gather_S2000x2x128_S320000x1_S320000x2x128_12_0_n_n_0_1_12128 x (wrap 2000#32 e)
def toN128 (n : Ints) (u : FVec Ideal S320000x2x128 .f32) : FVec Ideal S10000x2x128 .f32 :=
  Host.scatterAdd scatter_S10000x2x128_S320000x1_S320000x2x128_12_0_0_1 (broadcastInDim S10000x2x128 ![] bcast_S_S10000x2x128 (constant S_ .f32 0x00000000#32)) (col n) u
def conv128 (n e : Ints) (x : FVec Ideal S10000x2x128 .f32) : FVec Ideal S10000x2x128 .f32 :=
  toN128 n (scale128 (takeN n) (fromE128 e (toE128 e (scale128 (takeE e) (fromN128 n x)))))

def lin1 (X : FVec Ideal S2x10000x128 .f32) (W : FVec Ideal S128x64 .f32) : FVec Ideal S10000x2x64 .f32 :=
  Host.dotGeneral dot_S10000x2x128_S128x64_S10000x2x64_2_0_01_1_n_n none (transpose S10000x2x128 [1, 0, 2] X transposes_S2x10000x128_S10000x2x128_1_0_2) W
def lin2 (X : FVec Ideal S10000x2x64 .f32) (W : FVec Ideal S64x128 .f32) : FVec Ideal S10000x2x128 .f32 :=
  Host.dotGeneral dot_S10000x2x64_S64x128_S10000x2x128_2_0_01_1_n_n none X W
def bias64 (x : FVec Ideal S10000x2x64 .f32) (b : FVec Ideal S64 .f32) : FVec Ideal S10000x2x64 .f32 :=
  addf x (broadcastInDim S10000x2x64 ![0, 1, 2] bcast_S1x1x64_S10000x2x64_0_1_2 (broadcastInDim S1x1x64 ![2] bcast_S64_S1x1x64_2 b))
def bias128 (x : FVec Ideal S10000x2x128 .f32) (b : FVec Ideal S128 .f32) : FVec Ideal S10000x2x128 .f32 :=
  addf x (broadcastInDim S10000x2x128 ![0, 1, 2] bcast_S1x1x128_S10000x2x128_0_1_2 (broadcastInDim S1x1x128 ![2] bcast_S128_S1x1x128_2 b))

def whole (X : FVec Ideal S2x10000x128 .f32) (h : Vec Ideal S2x320000 .i32) (W1 : FVec Ideal S128x64 .f32) (b1 : FVec Ideal S64 .f32) (W2 : FVec Ideal S64x128 .f32) (b2 : FVec Ideal S128 .f32) :
    FVec Ideal S2x10000x128 .f32 :=
  transpose S2x10000x128 [1, 0, 2] (bias128 (conv128 (row0 h) (row1 h) (lin2 (bias64 (conv64 (row0 h) (row1 h) (lin1 X W1)) b1) W2)) b2) transposes_S10000x2x128_S2x10000x128_1_0_2

set_option maxHeartbeats 4000000 in
theorem res_eq (m : (ℓ : Loc nD τ sig) → Buf (Elt Ideal) ℓ) (c : Dev nD) :
    res_main_v127 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold res_main_v127
  unfold whole bias128 bias64 lin2 lin1 conv128 conv64 toN128 fromE128 toE128 fromN128 scale128 toN64 fromE64 toE64 fromN64 scale64 takeN takeE invN invE degN degE wrap ones col row0 row1
  rfl

/-! ## Read at an index -/

def num (v : Ints) (k : Fin 320000) : ℕ := (v (ix1 k)).toNat

theorem toInt_small (w : BitVec 32) (h : w.toNat < 2000) : w.toInt = w.toNat := by
  rw [BitVec.toInt_eq_toNat_cond, if_pos (by omega)]

theorem col_apply (v : Ints) (k : Fin 320000) : col v (ix2 k (0 : Fin 1)) = v (ix1 k) := by
  pointwise [col]

theorem wrap_apply (b : BitVec 32) (v : Ints) (k : Fin 320000) (h : (v (ix1 k)).toNat < 2000) : wrap b v (ix2 k (0 : Fin 1)) = v (ix1 k) := by
  unfold wrap
  rw [col_apply]
  show Scalar.select (IntOp.cmpi .slt (v (ix1 k)) 0#32) (v (ix1 k) + b) (v (ix1 k)) = v (ix1 k)
  generalize v (ix1 k) = w at h
  have hs : w.slt 0#32 = false := by
    rw [BitVec.slt_eq_decide, decide_eq_false_iff_not, toInt_small w h]
    simp
  show (if BitVec.ofBool (w.slt 0#32) = 1 then w + b else w) = w
  rw [hs]
  exact if_neg (by decide)

variable (v n e : Ints) (hv : ∀ k, num v k < 2000) (hn : ∀ k, num n k < 2000) (he : ∀ k, num e k < 2000)

theorem ones_apply (k : Fin 320000) : (ones (ix1 k) : EReal) = 1 := by pointwise [ones]

include hv in
theorem col_int (k : Fin 320000) : (col v (ix2 k (0 : Fin 1))).toInt = num v k := by
  rw [col_apply]; exact toInt_small _ (hv k)
include hv in
theorem wrap_int (b : BitVec 32) (k : Fin 320000) : (wrap b v (ix2 k (0 : Fin 1))).toInt = num v k := by
  rw [wrap_apply b v k (hv k)]; exact toInt_small _ (hv k)

include hv in
theorem degN_apply (i : Fin 10000) : (degN v (ix1 i) : EReal) = ((deg (num v) i.val : ℕ) : EReal) := by
  refine (scat1_apply (N := 10000) (n := 320000) _ _ _ _ (num v) (col_int v hv) i).trans ?_
  have e0 : (broadcastInDim S10000 ![] bcast_S_S10000 (constant (F := Ideal) S_ .f32 0x00000000#32) (ix1 i) : EReal) = 0 := by pointwise
  rw [e0, zero_add]
  simp only [ones_apply]
  rw [Finset.sum_const, EReal.nsmul_eq_mul, mul_one]
  rfl
include hv in
theorem degE_apply (i : Fin 2000) : (degE v (ix1 i) : EReal) = ((deg (num v) i.val : ℕ) : EReal) := by
  refine (scat1_apply (N := 2000) (n := 320000) _ _ _ _ (num v) (col_int v hv) i).trans ?_
  have e0 : (broadcastInDim S2000 ![] bcast_S_S2000 (constant (F := Ideal) S_ .f32 0x00000000#32) (ix1 i) : EReal) = 0 := by pointwise
  rw [e0, zero_add]
  simp only [ones_apply]
  rw [Finset.sum_const, EReal.nsmul_eq_mul, mul_one]
  rfl

theorem div_deg (d : ℕ) : (if 0 < ((d : ℕ) : EReal) then Ideal.div 1 ((d : ℕ) : EReal) else 0) = Pairs.inv d := by
  unfold Pairs.inv
  rcases Nat.eq_zero_or_pos d with h | h
  · subst h; simp
  · have h' : ((d : ℕ) : EReal) ≠ 0 := by exact_mod_cast h.ne'
    rw [if_pos (by exact_mod_cast h), if_neg h.ne', Ideal.div, if_neg h']
    rfl

include hv in
theorem invN_apply (i : Fin 10000) : (invN v (ix1 i) : EReal) = Pairs.inv (deg (num v) i.val) := by
  rw [← div_deg, ← degN_apply v hv]
  pointwise [invN, id_eq]
include hv in
theorem invE_apply (i : Fin 2000) : (invE v (ix1 i) : EReal) = Pairs.inv (deg (num v) i.val) := by
  rw [← div_deg, ← degE_apply v hv]
  pointwise [invE, id_eq]

include hv in
theorem takeN_apply (k : Fin 320000) : (takeN v (ix1 k) : EReal) = Pairs.inv (deg (num v) (num v k)) :=
  (gath1_apply (N := 10000) (n := 320000) _ _ _ k ⟨num v k, lt_trans (hv k) (by decide)⟩ (wrap_int v hv _ k)).trans (invN_apply v hv _)
include hv in
theorem takeE_apply (k : Fin 320000) : (takeE v (ix1 k) : EReal) = Pairs.inv (deg (num v) (num v k)) :=
  (gath1_apply (N := 2000) (n := 320000) _ _ _ k ⟨num v k, hv k⟩ (wrap_int v hv _ k)).trans (invE_apply v hv _)

theorem scale64_apply (w : FVec Ideal S320000 .f32) (x : FVec Ideal S320000x2x64 .f32) (k : Fin 320000) (p : Fin 2) (c : Fin 64) :
    (scale64 w x (ix3 k p c) : EReal) = w (ix1 k) * x (ix3 k p c) := by pointwise [scale64]
theorem scale128_apply (w : FVec Ideal S320000 .f32) (x : FVec Ideal S320000x2x128 .f32) (k : Fin 320000) (p : Fin 2) (c : Fin 128) :
    (scale128 w x (ix3 k p c) : EReal) = w (ix1 k) * x (ix3 k p c) := by pointwise [scale128]

include hn he in
theorem conv64_apply (x : FVec Ideal S10000x2x64 .f32) (p : Fin 2) (c : Fin 64) (y : ℕ → EReal) (hy : ∀ i : Fin 10000, (x (ix3 i p c) : EReal) = y i.val) (i : Fin 10000) :
    (conv64 n e x (ix3 i p c) : EReal) = node (num n) (num e) y i.val := by
  have z1 : (broadcastInDim S10000x2x64 ![] bcast_S_S10000x2x64 (constant (F := Ideal) S_ .f32 0x00000000#32) (ix3 i p c) : EReal) = 0 := by pointwise
  have z2 : ∀ j : Fin 2000, (broadcastInDim S2000x2x64 ![] bcast_S_S2000x2x64 (constant (F := Ideal) S_ .f32 0x00000000#32) (ix3 j p c) : EReal) = 0 := by intro j; pointwise
  have g1 : ∀ k, (fromN64 n x (ix3 k p c) : EReal) = y (num n k) := fun k =>
    (gath3_apply (N := 10000) (C := 64) (n := 320000) _ _ _ k p c ⟨num n k, lt_trans (hn k) (by decide)⟩ (wrap_int n hn _ k)).trans (hy _)
  have s1 : ∀ j : Fin 2000, (toE64 e (scale64 (takeE e) (fromN64 n x)) (ix3 j p c) : EReal) = edge (num n) (num e) y j.val := fun j => by
    refine (scat3_apply (N := 2000) (C := 64) (n := 320000) _ _ _ _ (num e) (col_int e he) j p c).trans ?_
    rw [z2, zero_add]
    simp only [scale64_apply, takeE_apply e he, g1]
    rfl
  have g2 : ∀ k, (fromE64 e (toE64 e (scale64 (takeE e) (fromN64 n x))) (ix3 k p c) : EReal) = edge (num n) (num e) y (num e k) := fun k =>
    (gath3_apply (N := 2000) (C := 64) (n := 320000) _ _ _ k p c ⟨num e k, he k⟩ (wrap_int e he _ k)).trans (s1 _)
  refine (scat3_apply (N := 10000) (C := 64) (n := 320000) _ _ _ _ (num n) (col_int n hn) i p c).trans ?_
  rw [z1, zero_add]
  simp only [scale64_apply, takeN_apply n hn, g2]
  rfl

include hn he in
theorem conv128_apply (x : FVec Ideal S10000x2x128 .f32) (p : Fin 2) (c : Fin 128) (y : ℕ → EReal) (hy : ∀ i : Fin 10000, (x (ix3 i p c) : EReal) = y i.val) (i : Fin 10000) :
    (conv128 n e x (ix3 i p c) : EReal) = node (num n) (num e) y i.val := by
  have z1 : (broadcastInDim S10000x2x128 ![] bcast_S_S10000x2x128 (constant (F := Ideal) S_ .f32 0x00000000#32) (ix3 i p c) : EReal) = 0 := by pointwise
  have z2 : ∀ j : Fin 2000, (broadcastInDim S2000x2x128 ![] bcast_S_S2000x2x128 (constant (F := Ideal) S_ .f32 0x00000000#32) (ix3 j p c) : EReal) = 0 := by intro j; pointwise
  have g1 : ∀ k, (fromN128 n x (ix3 k p c) : EReal) = y (num n k) := fun k =>
    (gath3_apply (N := 10000) (C := 128) (n := 320000) _ _ _ k p c ⟨num n k, lt_trans (hn k) (by decide)⟩ (wrap_int n hn _ k)).trans (hy _)
  have s1 : ∀ j : Fin 2000, (toE128 e (scale128 (takeE e) (fromN128 n x)) (ix3 j p c) : EReal) = edge (num n) (num e) y j.val := fun j => by
    refine (scat3_apply (N := 2000) (C := 128) (n := 320000) _ _ _ _ (num e) (col_int e he) j p c).trans ?_
    rw [z2, zero_add]
    simp only [scale128_apply, takeE_apply e he, g1]
    rfl
  have g2 : ∀ k, (fromE128 e (toE128 e (scale128 (takeE e) (fromN128 n x))) (ix3 k p c) : EReal) = edge (num n) (num e) y (num e k) := fun k =>
    (gath3_apply (N := 2000) (C := 128) (n := 320000) _ _ _ k p c ⟨num e k, he k⟩ (wrap_int e he _ k)).trans (s1 _)
  refine (scat3_apply (N := 10000) (C := 128) (n := 320000) _ _ _ _ (num n) (col_int n hn) i p c).trans ?_
  rw [z1, zero_add]
  simp only [scale128_apply, takeN_apply n hn, g2]
  rfl

section Whole

variable (X : FVec Ideal S2x10000x128 .f32) (h : Vec Ideal S2x320000 .i32) (W1 : FVec Ideal S128x64 .f32) (b1 : FVec Ideal S64 .f32) (W2 : FVec Ideal S64x128 .f32) (b2 : FVec Ideal S128 .f32)

theorem lin1_apply (i : Fin 10000) (p : Fin 2) (c : Fin 64) : (lin1 X W1 (ix3 i p c) : EReal) = ∑ k : Fin 128, X (ix3 p i k) * W1 (ix2 k c) := by pointwise [lin1]
theorem lin2_apply (x : FVec Ideal S10000x2x64 .f32) (i : Fin 10000) (p : Fin 2) (c : Fin 128) : (lin2 x W2 (ix3 i p c) : EReal) = ∑ k : Fin 64, x (ix3 i p k) * W2 (ix2 k c) := by pointwise [lin2]
theorem bias64_apply (x : FVec Ideal S10000x2x64 .f32) (i : Fin 10000) (p : Fin 2) (c : Fin 64) : (bias64 x b1 (ix3 i p c) : EReal) = x (ix3 i p c) + b1 (ix1 c) := by pointwise [bias64]
theorem bias128_apply (x : FVec Ideal S10000x2x128 .f32) (i : Fin 10000) (p : Fin 2) (c : Fin 128) : (bias128 x b2 (ix3 i p c) : EReal) = x (ix3 i p c) + b2 (ix1 c) := by pointwise [bias128]

/-- Layer one's features times its weights, the hidden features, and those times layer two's weights. -/
def f1 (p : Fin 2) (c : Fin 64) (a : ℕ) : EReal := if q : a < 10000 then ∑ i : Fin 128, X (ix3 p ⟨a, q⟩ i) * W1 (ix2 i c) else 0
def f2 (n e : Fin 320000 → ℕ) (p : Fin 2) (c : Fin 128) (a : ℕ) : EReal := ∑ i : Fin 64, (node n e (f1 X W1 p i) a + b1 (ix1 i)) * W2 (ix2 i c)

theorem whole_apply (h0 : ∀ k, num (row0 h) k < 2000) (h1 : ∀ k, num (row1 h) k < 2000) (p : Fin 2) (a : Fin 10000) (c : Fin 128) :
    (whole X h W1 b1 W2 b2 (ix3 p a c) : EReal) = node (num (row0 h)) (num (row1 h)) (f2 X W1 b1 W2 (num (row0 h)) (num (row1 h)) p c) a.val + b2 (ix1 c) := by
  have ht : whole X h W1 b1 W2 b2 (ix3 p a c)
      = bias128 (conv128 (row0 h) (row1 h) (lin2 (bias64 (conv64 (row0 h) (row1 h) (lin1 X W1)) b1) W2)) b2 (ix3 a p c) := by
    unfold whole; pointwise
  rw [ht, bias128_apply]
  refine congrArg (· + (b2 (ix1 c) : EReal)) (conv128_apply _ _ h0 h1 _ p c _ (fun i => ?_) a)
  rw [lin2_apply]
  refine Finset.sum_congr rfl fun q _ => congrArg (· * (W2 (ix2 q c) : EReal)) ?_
  rw [bias64_apply]
  refine congrArg (· + (b1 (ix1 q) : EReal)) (conv64_apply _ _ h0 h1 _ p q _ (fun i => ?_) i)
  rw [lin1_apply]
  unfold f1
  rw [dif_pos i.isLt]

end Whole

end Cert.Proof.RefVal

end
-- ==== Proof.Algebraic.lean ====
/-  The kernel and the reference have equal results over the ideal values. -/
module

public import proofs.«01_k».proof.Defs
public import proofs.«01_k».proof.Proof.Frame
public import proofs.«01_k».proof.Proof.KTop
public import proofs.«01_k».proof.Proof.RefVal

@[expose] public section

set_option maxRecDepth 16384

noncomputable section

namespace Cert.Proof.Algebraic

open Cert.KernelIdeal Cert.KernelIdeal.Gen Cert.Proof.Sc Cert.Proof.Run Cert.Proof.KTop Cert.Proof.Frame
open Idealize.ShloMosaic Idealize.ShloMosaic.TcCoe Idealize.SL.Sem

variable (m : (ℓ : Loc nD τ sig) → Buf (Elt Ideal) ℓ) (d : Dev nD)

theorem row0_eq : RefVal.row0 (hidx m d) = nv m d := by
  rw [nv_eq]; rfl
theorem row1_eq : RefVal.row1 (hidx m d) = ev m d := by
  rw [ev_eq]; rfl

/-- The reference of the kernel's arguments is the kernel's result. -/
theorem whole_eq (h : ∀ j, @BitVec.toNat 32 (hidx m d j) < 2000) :
    RefVal.whole (x0 m d) (hidx m d) (x2 m d) (x3 m d) (x4 m d) (x5 m d) = W7 m d (rf main_v20) := by
  have hn := rowOK m d h
  have he := colOK m d h
  funext j
  obtain ⟨p, a, k, rfl⟩ : ∃ (p : Fin 2) (a : Fin 10000) (k : Fin 128), j = ix3 p a k := ⟨_, _, _, eq_ix3 j⟩
  have e0 : RefVal.num (RefVal.row0 (hidx m d)) = nE m d := by rw [row0_eq]; rfl
  have e1 : RefVal.num (RefVal.row1 (hidx m d)) = eE m d := by rw [row1_eq]; rfl
  have b0 : ∀ k, RefVal.num (RefVal.row0 (hidx m d)) k < 2000 := fun k => by rw [row0_eq]; exact hn _
  have b1 : ∀ k, RefVal.num (RefVal.row1 (hidx m d)) k < 2000 := fun k => by rw [row1_eq]; exact he _
  refine (RefVal.whole_apply (x0 m d) (hidx m d) (x2 m d) (x3 m d) (x4 m d) (x5 m d) b0 b1 p a k).trans ?_
  rw [e0, e1]
  exact (KTop.value m d hn he p a k).symm

theorem algebraic : Cert.algebraic_KernelIdeal_ReferenceIdeal := fun m g m' g' h hargs => by
  have hr : ∀ d : Dev nD, ∀ j, @BitVec.toNat 32 (hidx m d j) < 2000 := fun d j => range_of_pre _ _ _ _ _ _ (h d) j
  refine ⟨fun c => W7 m c (rf main_v20), ?_, ?_⟩
  · exact (θ_run Cert.KernelIdeal.defs _ _).mono (fun r (q : QC m r) c => ⟨q.1 c (rf main_v20) (uc_mem main_v20 rfl), args_six m r q c⟩)
      (run_main m g fun d => colOK m d (hr d))
  · refine (θ_run Cert.ReferenceIdeal.defs _ _).mono (fun r q c => ⟨(q c).1.trans ?_, (q c).2⟩) (Cert.ReferenceIdeal.Value.run (F := Ideal) m' g')
    rw [RefVal.res_eq]
    obtain ⟨a0, a1, a2, a3, a4, a5⟩ := hargs c
    rw [a0, a1, a2, a3, a4, a5]
    exact whole_eq m c (hr c)

end Cert.Proof.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  Frame.frame_kernel, Frame.frame_ideal, Frame.frame_reference, trivial, Algebraic.algebraic⟩

end Cert.Proof

end
